-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16x2048 : Shape := ⟨2, ![16, 2048]⟩
abbrev S16 : Shape := ⟨1, ![16]⟩
abbrev S50000x3 : Shape := ⟨2, ![50000, 3]⟩
abbrev S100000x2 : Shape := ⟨2, ![100000, 2]⟩
abbrev S50000x2 : Shape := ⟨2, ![50000, 2]⟩
abbrev S_ : Shape := ⟨0, ![]⟩

class Facts : Prop where
  bcast_S_S16x2048 : S_.BroadcastsInDim S16x2048 (![] : Fin 0 → Fin S16x2048.rank)
  bcast_S_S100000x2 : S_.BroadcastsInDim S100000x2 (![] : Fin 0 → Fin S100000x2.rank)
  bcast_S_S50000x2 : S_.BroadcastsInDim S50000x2 (![] : Fin 0 → Fin S50000x2.rank)

variable [Facts]

def fn {F : FTy → Type} [FloatOps F] (main_arg0 : IVec S16x2048 32) (main_arg1 : IVec S16 32) (main_arg2 : IVec S16x2048 32) (main_arg3 : IVec S16x2048 32) (main_arg4 : IVec S16x2048 32) (main_arg5 : FVec F S50000x3 .f32) (main_arg6 : FVec F S100000x2 .f32) (main_arg7 : FVec F S50000x2 .f32) : IVec S16x2048 1 × IVec S16x2048 1 × IVec S100000x2 1 × IVec S50000x2 1 :=
  let main_v0 : IVec S16x2048 32 := iotaInDim S16x2048 32 0
  let main_c : IVec S_ 32 := constantI S_ 32 2048#32
  let main_v1 : IVec S16x2048 32 := broadcastInDim S16x2048 ![] bcast_S_S16x2048 main_c
  let main_v2 : IVec S16x2048 32 := muli main_v0 main_v1
  let main_v3 : IVec S16x2048 32 := iotaInDim S16x2048 32 1
  let main_v4 : IVec S16x2048 32 := addi main_v2 main_v3
  let main_v5 : IVec S16x2048 1 := cmpi .eq main_arg3 main_v4
  let main_c_0 : IVec S_ 32 := constantI S_ 32 0#32
  let main_v6 : IVec S16x2048 32 := broadcastInDim S16x2048 ![] bcast_S_S16x2048 main_c_0
  let main_v7 : IVec S16x2048 1 := cmpi .sge main_arg4 main_v6
  let main_c_1 : IVec S_ 32 := constantI S_ 32 1#32
  let main_v8 : IVec S16x2048 32 := broadcastInDim S16x2048 ![] bcast_S_S16x2048 main_c_1
  let main_v9 : IVec S16x2048 1 := cmpi .sle main_arg4 main_v8
  let main_v10 : IVec S16x2048 1 := andi main_v7 main_v9
  let main_v11 : FVec F S100000x2 .f32 := Host.absf main_arg6
  let main_cst : FVec F S_ .f32 := constant S_ .f32 0x40400000#32
  let main_v12 : FVec F S100000x2 .f32 := broadcastInDim S100000x2 ![] bcast_S_S100000x2 main_cst
  let main_v13 : IVec S100000x2 1 := cmpf .ole main_v11 main_v12
  let main_v14 : FVec F S50000x2 .f32 := Host.absf main_arg7
  let main_cst_2 : FVec F S_ .f32 := constant S_ .f32 0x41000000#32
  let main_v15 : FVec F S50000x2 .f32 := broadcastInDim S50000x2 ![] bcast_S_S50000x2 main_cst_2
  let main_v16 : IVec S50000x2 1 := cmpf .ole main_v14 main_v15
  (main_v5, main_v10, main_v13, main_v16)
-- ==== Kernel.lean ====
abbrev S16x2048 : Shape := ⟨2, ![16, 2048]⟩
abbrev S16 : Shape := ⟨1, ![16]⟩
abbrev S50000x3 : Shape := ⟨2, ![50000, 3]⟩
abbrev S100000x2 : Shape := ⟨2, ![100000, 2]⟩
abbrev S50000x2 : Shape := ⟨2, ![50000, 2]⟩
abbrev S32768 : Shape := ⟨1, ![32768]⟩
abbrev S_ : Shape := ⟨0, ![]⟩
abbrev S32768x1 : Shape := ⟨2, ![32768, 1]⟩
abbrev S32768x2 : Shape := ⟨2, ![32768, 2]⟩
abbrev S16x1 : Shape := ⟨2, ![16, 1]⟩
abbrev S16x3 : Shape := ⟨2, ![16, 3]⟩
abbrev S16x2 : Shape := ⟨2, ![16, 2]⟩
abbrev S5x1x1 : Shape := ⟨3, ![5, 1, 1]⟩
abbrev S1x16x2048 : Shape := ⟨3, ![1, 16, 2048]⟩
abbrev S5x16x2048 : Shape := ⟨3, ![5, 16, 2048]⟩
abbrev S80x2048 : Shape := ⟨2, ![80, 2048]⟩
abbrev S1x16x1 : Shape := ⟨3, ![1, 16, 1]⟩
abbrev S5x16x1 : Shape := ⟨3, ![5, 16, 1]⟩
abbrev S80x1 : Shape := ⟨2, ![80, 1]⟩
abbrev S80x2047 : Shape := ⟨2, ![80, 2047]⟩
abbrev S80x2 : Shape := ⟨2, ![80, 2]⟩
abbrev S80x2046 : Shape := ⟨2, ![80, 2046]⟩
abbrev S80x4 : Shape := ⟨2, ![80, 4]⟩
abbrev S80x2044 : Shape := ⟨2, ![80, 2044]⟩
abbrev S80x8 : Shape := ⟨2, ![80, 8]⟩
abbrev S80x2040 : Shape := ⟨2, ![80, 2040]⟩
abbrev S80x16 : Shape := ⟨2, ![80, 16]⟩
abbrev S80x2032 : Shape := ⟨2, ![80, 2032]⟩
abbrev S80x32 : Shape := ⟨2, ![80, 32]⟩
abbrev S80x2016 : Shape := ⟨2, ![80, 2016]⟩
abbrev S80x64 : Shape := ⟨2, ![80, 64]⟩
abbrev S80x1984 : Shape := ⟨2, ![80, 1984]⟩
abbrev S80x128 : Shape := ⟨2, ![80, 128]⟩
abbrev S80x1920 : Shape := ⟨2, ![80, 1920]⟩
abbrev S80x256 : Shape := ⟨2, ![80, 256]⟩
abbrev S80x1792 : Shape := ⟨2, ![80, 1792]⟩
abbrev S80x512 : Shape := ⟨2, ![80, 512]⟩
abbrev S80x1536 : Shape := ⟨2, ![80, 1536]⟩
abbrev S80x1024 : Shape := ⟨2, ![80, 1024]⟩
abbrev S16x2048x1 : Shape := ⟨3, ![16, 2048, 1]⟩
abbrev S16x2048x2 : Shape := ⟨3, ![16, 2048, 2]⟩

abbrev nBuf : Space → Nat
  | .hbm => 47
  | .vmem => 8
  | .smem => 0
  | _ => 0

abbrev bufTy : (tb : Table) → Fin (tcTables nBuf tb) → BufTy
  | .hbm, ⟨0, _⟩ => ⟨S16x2048, .i32⟩
  | .hbm, ⟨1, _⟩ => ⟨S16, .i32⟩
  | .hbm, ⟨2, _⟩ => ⟨S16x2048, .i32⟩
  | .hbm, ⟨3, _⟩ => ⟨S16x2048, .i32⟩
  | .hbm, ⟨4, _⟩ => ⟨S16x2048, .i32⟩
  | .hbm, ⟨5, _⟩ => ⟨S50000x3, .f32⟩
  | .hbm, ⟨6, _⟩ => ⟨S100000x2, .f32⟩
  | .hbm, ⟨7, _⟩ => ⟨S50000x2, .f32⟩
  | .hbm, ⟨8, _⟩ => ⟨S32768, .i32⟩
  | .hbm, ⟨9, _⟩ => ⟨S_, .i32⟩
  | .hbm, ⟨10, _⟩ => ⟨S32768, .i32⟩
  | .hbm, ⟨11, _⟩ => ⟨S32768, .i1⟩
  | .hbm, ⟨12, _⟩ => ⟨S_, .i32⟩
  | .hbm, ⟨13, _⟩ => ⟨S32768, .i32⟩
  | .hbm, ⟨14, _⟩ => ⟨S32768, .i32⟩
  | .hbm, ⟨15, _⟩ => ⟨S32768, .i32⟩
  | .hbm, ⟨16, _⟩ => ⟨S32768x1, .i32⟩
  | .hbm, ⟨17, _⟩ => ⟨S32768x2, .f32⟩
  | .hbm, ⟨18, _⟩ => ⟨S32768x1, .f32⟩
  | .hbm, ⟨19, _⟩ => ⟨S32768, .f32⟩
  | .hbm, ⟨20, _⟩ => ⟨S16x2048, .f32⟩
  | .hbm, ⟨21, _⟩ => ⟨S32768x1, .f32⟩
  | .hbm, ⟨22, _⟩ => ⟨S32768, .f32⟩
  | .hbm, ⟨23, _⟩ => ⟨S16x2048, .f32⟩
  | .hbm, ⟨24, _⟩ => ⟨S_, .i32⟩
  | .hbm, ⟨25, _⟩ => ⟨S16, .i32⟩
  | .hbm, ⟨26, _⟩ => ⟨S16, .i1⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S16, .i32⟩
  | .hbm, ⟨31, _⟩ => ⟨S16x1, .i32⟩
  | .hbm, ⟨32, _⟩ => ⟨S16x3, .f32⟩
  | .hbm, ⟨33, _⟩ => ⟨S_, .i32⟩
  | .hbm, ⟨34, _⟩ => ⟨S16, .i32⟩
  | .hbm, ⟨35, _⟩ => ⟨S16, .i1⟩
  | .hbm, ⟨36, _⟩ => ⟨S_, .i32⟩
  | .hbm, ⟨37, _⟩ => ⟨S16, .i32⟩
  | .hbm, ⟨38, _⟩ => ⟨S16, .i32⟩
  | .hbm, ⟨39, _⟩ => ⟨S16, .i32⟩
  | .hbm, ⟨40, _⟩ => ⟨S16x1, .i32⟩
  | .hbm, ⟨41, _⟩ => ⟨S16x2, .f32⟩
  | .hbm, ⟨42, _⟩ => ⟨S16x2048, .f32⟩
  | .hbm, ⟨43, _⟩ => ⟨S16x2048, .f32⟩
  | .hbm, ⟨44, _⟩ => ⟨S16x2048x1, .f32⟩
  | .hbm, ⟨45, _⟩ => ⟨S16x2048x1, .f32⟩
  | .hbm, ⟨46, _⟩ => ⟨S16x2048x2, .f32⟩
  | .local _ .vmem, ⟨0, _⟩ => ⟨S16x2048, .i32⟩
  | .local _ .vmem, ⟨1, _⟩ => ⟨S16x2048, .i32⟩
  | .local _ .vmem, ⟨2, _⟩ => ⟨S16x2048, .f32⟩
  | .local _ .vmem, ⟨3, _⟩ => ⟨S16x2048, .f32⟩
  | .local _ .vmem, ⟨4, _⟩ => ⟨S16x3, .f32⟩
  | .local _ .vmem, ⟨5, _⟩ => ⟨S16x2, .f32⟩
  | .local _ .vmem, ⟨6, _⟩ => ⟨S16x2048, .f32⟩
  | .local _ .vmem, ⟨7, _⟩ => ⟨S16x2048, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28_0 : Ref sig .tc := ⟨.hbm, 42, rfl⟩
abbrev main_v28_1 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S16x2048 : Shape := ⟨2, ![16, 2048]⟩
abbrev S16 : Shape := ⟨1, ![16]⟩
abbrev S50000x3 : Shape := ⟨2, ![50000, 3]⟩
abbrev S100000x2 : Shape := ⟨2, ![100000, 2]⟩
abbrev S50000x2 : Shape := ⟨2, ![50000, 2]⟩
abbrev S5 : Shape := ⟨1, ![5]⟩
abbrev S5x16 : Shape := ⟨2, ![5, 16]⟩
abbrev S80 : Shape := ⟨1, ![80]⟩
abbrev S1x16x1x2048 : Shape := ⟨4, ![1, 16, 1, 2048]⟩
abbrev S5x16x1x2048 : Shape := ⟨4, ![5, 16, 1, 2048]⟩
abbrev S80x2048 : Shape := ⟨2, ![80, 2048]⟩
abbrev S1x16 : Shape := ⟨2, ![1, 16]⟩
abbrev S_ : Shape := ⟨0, ![]⟩
abbrev S80x1 : Shape := ⟨2, ![80, 1]⟩
abbrev S80x3 : Shape := ⟨2, ![80, 3]⟩
abbrev S80x2 : Shape := ⟨2, ![80, 2]⟩
abbrev S80x1x2 : Shape := ⟨3, ![80, 1, 2]⟩
abbrev S80x2048x1 : Shape := ⟨3, ![80, 2048, 1]⟩
abbrev S80x2048x2 : Shape := ⟨3, ![80, 2048, 2]⟩
abbrev S2048x80 : Shape := ⟨2, ![2048, 80]⟩
abbrev S2048x80x2 : Shape := ⟨3, ![2048, 80, 2]⟩
abbrev S1x80 : Shape := ⟨2, ![1, 80]⟩
abbrev S1x80x2 : Shape := ⟨3, ![1, 80, 2]⟩
abbrev S163840 : Shape := ⟨1, ![163840]⟩
abbrev S163841 : Shape := ⟨1, ![163841]⟩
abbrev S163840x1 : Shape := ⟨2, ![163840, 1]⟩
abbrev S5x16x2048 : Shape := ⟨3, ![5, 16, 2048]⟩
abbrev S5x16x2048x1 : Shape := ⟨4, ![5, 16, 2048, 1]⟩
abbrev S5x16x2048x2 : Shape := ⟨4, ![5, 16, 2048, 2]⟩
abbrev S16x5x2048x2 : Shape := ⟨4, ![16, 5, 2048, 2]⟩
abbrev S16x1x2048x1 : Shape := ⟨4, ![16, 1, 2048, 1]⟩
abbrev S16x5x2048x1 : Shape := ⟨4, ![16, 5, 2048, 1]⟩
abbrev S16x5x2048x1x1 : Shape := ⟨5, ![16, 5, 2048, 1, 1]⟩
abbrev S1 : Shape := ⟨1, ![1]⟩
abbrev S1x1x1x1x1 : Shape := ⟨5, ![1, 1, 1, 1, 1]⟩
abbrev S16x5x2048 : Shape := ⟨3, ![16, 5, 2048]⟩
abbrev S16x1x2048 : Shape := ⟨3, ![16, 1, 2048]⟩
abbrev S16x2048x2 : Shape := ⟨3, ![16, 2048, 2]⟩

abbrev nBuf : Space → Nat
  | .hbm => 311
  | .vmem => 0
  | .smem => 0
  | _ => 0

abbrev hbmTy0_0 (i : Nat) : BufTy := match i % 128 with
  | 0 => ⟨S16x2048, .i32⟩
  | 1 => ⟨S16, .i32⟩
  | 2 => ⟨S16x2048, .i32⟩
  | 3 => ⟨S16x2048, .i32⟩
  | 4 => ⟨S16x2048, .i32⟩
  | 5 => ⟨S50000x3, .f32⟩
  | 6 => ⟨S100000x2, .f32⟩
  | 7 => ⟨S50000x2, .f32⟩
  | 8 => ⟨S5, .f32⟩
  | 9 => ⟨S5, .i32⟩
  | 10 => ⟨S5x16, .i32⟩
  | 11 => ⟨S80, .i32⟩
  | 12 => ⟨S5x16, .f32⟩
  | 13 => ⟨S80, .f32⟩
  | 14 => ⟨S1x16x1x2048, .i32⟩
  | 15 => ⟨S5x16x1x2048, .i32⟩
  | 16 => ⟨S80x2048, .i32⟩
  | 17 => ⟨S1x16x1x2048, .i32⟩
  | 18 => ⟨S5x16x1x2048, .i32⟩
  | 19 => ⟨S80x2048, .i32⟩
  | 20 => ⟨S1x16x1x2048, .i32⟩
  | 21 => ⟨S5x16x1x2048, .i32⟩
  | 22 => ⟨S80x2048, .i32⟩
  | 23 => ⟨S1x16, .i32⟩
  | 24 => ⟨S5x16, .i32⟩
  | 25 => ⟨S80, .i32⟩
  | 26 => ⟨S_, .i32⟩
  | 27 => ⟨S80, .i32⟩
  | 28 => ⟨S80, .i1⟩
  | 29 => ⟨S_, .i32⟩
  | 30 => ⟨S80, .i32⟩
  | 31 => ⟨S80, .i32⟩
  | 32 => ⟨S80, .i32⟩
  | 33 => ⟨S80x1, .i32⟩
  | 34 => ⟨S80x3, .f32⟩
  | 35 => ⟨S_, .i32⟩
  | 36 => ⟨S80, .i32⟩
  | 37 => ⟨S80, .i1⟩
  | 38 => ⟨S_, .i32⟩
  | 39 => ⟨S80, .i32⟩
  | 40 => ⟨S80, .i32⟩
  | 41 => ⟨S80, .i32⟩
  | 42 => ⟨S80x1, .i32⟩
  | 43 => ⟨S80x2, .f32⟩
  | 44 => ⟨S80x1x2, .f32⟩
  | 45 => ⟨S_, .i32⟩
  | 46 => ⟨S80x2048, .i32⟩
  | 47 => ⟨S80x2048, .i1⟩
  | 48 => ⟨S_, .i32⟩
  | 49 => ⟨S80x2048, .i32⟩
  | 50 => ⟨S80x2048, .i32⟩
  | 51 => ⟨S80x2048, .i32⟩
  | 52 => ⟨S80x2048x1, .i32⟩
  | 53 => ⟨S80x2048x2, .f32⟩
  | 54 => ⟨S80x2048x2, .f32⟩
  | 55 => ⟨S80x2048x2, .f32⟩
  | 56 => ⟨S80x1, .f32⟩
  | 57 => ⟨S80x2048x1, .f32⟩
  | 58 => ⟨S80x2048, .f32⟩
  | 59 => ⟨S80x2048, .f32⟩
  | 60 => ⟨S80x2048, .f32⟩
  | 61 => ⟨S80x2048x1, .f32⟩
  | 62 => ⟨S80x2048, .f32⟩
  | 63 => ⟨S80x1, .f32⟩
  | 64 => ⟨S80x2048, .f32⟩
  | 65 => ⟨S80x2048, .f32⟩
  | 66 => ⟨S80x2048x1, .f32⟩
  | 67 => ⟨S80x2048x1, .f32⟩
  | 68 => ⟨S80x2048x2, .f32⟩
  | 69 => ⟨S80x1, .f32⟩
  | 70 => ⟨S80, .f32⟩
  | 71 => ⟨S80, .f32⟩
  | 72 => ⟨S80, .f32⟩
  | 73 => ⟨S_, .f32⟩
  | 74 => ⟨S80, .f32⟩
  | 75 => ⟨S80, .f32⟩
  | 76 => ⟨S_, .f32⟩
  | 77 => ⟨S80, .f32⟩
  | 78 => ⟨S80, .f32⟩
  | 79 => ⟨S80x1, .f32⟩
  | 80 => ⟨S80, .f32⟩
  | 81 => ⟨S80, .f32⟩
  | 82 => ⟨S80, .f32⟩
  | 83 => ⟨S_, .f32⟩
  | 84 => ⟨S80, .f32⟩
  | 85 => ⟨S80, .f32⟩
  | 86 => ⟨S_, .f32⟩
  | 87 => ⟨S80, .f32⟩
  | 88 => ⟨S80, .f32⟩
  | 89 => ⟨S80x1, .f32⟩
  | 90 => ⟨S80, .f32⟩
  | 91 => ⟨S80, .f32⟩
  | 92 => ⟨S80, .f32⟩
  | 93 => ⟨S_, .f32⟩
  | 94 => ⟨S80, .f32⟩
  | 95 => ⟨S80, .f32⟩
  | 96 => ⟨S_, .f32⟩
  | 97 => ⟨S80, .f32⟩
  | 98 => ⟨S80, .f32⟩
  | 99 => ⟨S80x2048x2, .f32⟩
  | 100 => ⟨S80x2048x2, .f32⟩
  | 101 => ⟨S_, .f32⟩
  | 102 => ⟨S80x2048x2, .f32⟩
  | 103 => ⟨S80x2048x2, .f32⟩
  | 104 => ⟨S_, .f32⟩
  | 105 => ⟨S80x2048x2, .f32⟩
  | 106 => ⟨S80x2048x2, .f32⟩
  | 107 => ⟨S_, .f32⟩
  | 108 => ⟨S80, .f32⟩
  | 109 => ⟨S80, .f32⟩
  | 110 => ⟨S80x1, .f32⟩
  | 111 => ⟨S80x1, .f32⟩
  | 112 => ⟨S80x2, .f32⟩
  | 113 => ⟨S2048x80, .i32⟩
  | 114 => ⟨S2048x80x2, .f32⟩
  | 115 => ⟨S_, .f32⟩
  | 116 => ⟨S2048x80x2, .f32⟩
  | 117 => ⟨S_, .i32⟩
  | 118 => ⟨S2048x80, .i32⟩
  | 119 => ⟨S2048x80x2, .f32⟩
  | 120 => ⟨S80, .f32⟩
  | 121 => ⟨S80, .f32⟩
  | 122 => ⟨S_, .i32⟩
  | 123 => ⟨S80x2, .f32⟩
  | 124 => ⟨S2048x80x2, .f32⟩
  | 125 => ⟨S_, .i32⟩
  | 126 => ⟨S_, .i1⟩
  | 127 => ⟨S_, .i32⟩
  | _ => ⟨S16x2048, .i32⟩

abbrev hbmTy0_1 (i : Nat) : BufTy := match i % 128 with
  | 0 => ⟨S1x80, .i32⟩
  | 1 => ⟨S80, .i32⟩
  | 2 => ⟨S_, .i32⟩
  | 3 => ⟨S_, .i32⟩
  | 4 => ⟨S1x80x2, .f32⟩
  | 5 => ⟨S80x2, .f32⟩
  | 6 => ⟨S80x2, .f32⟩
  | 7 => ⟨S_, .f32⟩
  | 8 => ⟨S80, .f32⟩
  | 9 => ⟨S_, .f32⟩
  | 10 => ⟨S_, .f32⟩
  | 11 => ⟨S_, .f32⟩
  | 12 => ⟨S80, .f32⟩
  | 13 => ⟨S80, .f32⟩
  | 14 => ⟨S_, .f32⟩
  | 15 => ⟨S80, .f32⟩
  | 16 => ⟨S80, .f32⟩
  | 17 => ⟨S80, .f32⟩
  | 18 => ⟨S80, .f32⟩
  | 19 => ⟨S80, .f32⟩
  | 20 => ⟨S80x1, .f32⟩
  | 21 => ⟨S80x1, .f32⟩
  | 22 => ⟨S80x2, .f32⟩
  | 23 => ⟨S80x1, .i32⟩
  | 24 => ⟨S_, .i32⟩
  | 25 => ⟨S80x1, .i32⟩
  | 26 => ⟨S80x1, .i1⟩
  | 27 => ⟨S_, .f32⟩
  | 28 => ⟨S80x2, .f32⟩
  | 29 => ⟨S80x2, .f32⟩
  | 30 => ⟨S80x2, .i1⟩
  | 31 => ⟨S80x2, .f32⟩
  | 32 => ⟨S80x2, .f32⟩
  | 33 => ⟨S_, .f32⟩
  | 34 => ⟨S80, .f32⟩
  | 35 => ⟨S80x1, .f32⟩
  | 36 => ⟨S_, .f32⟩
  | 37 => ⟨S_, .f32⟩
  | 38 => ⟨S80x1, .f32⟩
  | 39 => ⟨S80x1, .f32⟩
  | 40 => ⟨S80x2, .f32⟩
  | 41 => ⟨S80x2, .f32⟩
  | 42 => ⟨S80x1, .f32⟩
  | 43 => ⟨S80, .f32⟩
  | 44 => ⟨S_, .f32⟩
  | 45 => ⟨S80, .f32⟩
  | 46 => ⟨S80, .f32⟩
  | 47 => ⟨S80, .f32⟩
  | 48 => ⟨S80x1, .f32⟩
  | 49 => ⟨S80, .f32⟩
  | 50 => ⟨S80, .f32⟩
  | 51 => ⟨S80, .f32⟩
  | 52 => ⟨S80x1, .f32⟩
  | 53 => ⟨S80, .f32⟩
  | 54 => ⟨S80, .f32⟩
  | 55 => ⟨S80x1, .f32⟩
  | 56 => ⟨S80, .f32⟩
  | 57 => ⟨S_, .f32⟩
  | 58 => ⟨S80, .f32⟩
  | 59 => ⟨S80, .f32⟩
  | 60 => ⟨S80, .f32⟩
  | 61 => ⟨S80, .f32⟩
  | 62 => ⟨S80x1, .f32⟩
  | 63 => ⟨S80x1, .f32⟩
  | 64 => ⟨S80x2, .f32⟩
  | 65 => ⟨S1x80x2, .f32⟩
  | 66 => ⟨S_, .i32⟩
  | 67 => ⟨S_, .i32⟩
  | 68 => ⟨S2048x80x2, .f32⟩
  | 69 => ⟨S_, .i32⟩
  | 70 => ⟨S_, .i32⟩
  | 71 => ⟨S80x2048x2, .f32⟩
  | 72 => ⟨S80x1, .i32⟩
  | 73 => ⟨S_, .i32⟩
  | 74 => ⟨S80x1, .i32⟩
  | 75 => ⟨S80x1, .i32⟩
  | 76 => ⟨S_, .i32⟩
  | 77 => ⟨S80x1, .i32⟩
  | 78 => ⟨S80x1, .i32⟩
  | 79 => ⟨S80x2048, .i32⟩
  | 80 => ⟨S80x2048, .i32⟩
  | 81 => ⟨S_, .i32⟩
  | 82 => ⟨S80x2048, .i32⟩
  | 83 => ⟨S80x2048, .i1⟩
  | 84 => ⟨S_, .i32⟩
  | 85 => ⟨S_, .i32⟩
  | 86 => ⟨S80x2048, .i32⟩
  | 87 => ⟨S80x2048, .i32⟩
  | 88 => ⟨S163840, .i32⟩
  | 89 => ⟨S_, .i32⟩
  | 90 => ⟨S163840, .i32⟩
  | 91 => ⟨S163840, .i1⟩
  | 92 => ⟨S_, .i32⟩
  | 93 => ⟨S_, .i32⟩
  | 94 => ⟨S163840, .i32⟩
  | 95 => ⟨S163840, .i32⟩
  | 96 => ⟨S_, .f32⟩
  | 97 => ⟨S163841, .f32⟩
  | 98 => ⟨S80x2048x1, .f32⟩
  | 99 => ⟨S80x2048, .f32⟩
  | 100 => ⟨S163840, .f32⟩
  | 101 => ⟨S_, .i32⟩
  | 102 => ⟨S163840, .i32⟩
  | 103 => ⟨S163840, .i1⟩
  | 104 => ⟨S_, .i32⟩
  | 105 => ⟨S163840, .i32⟩
  | 106 => ⟨S163840, .i32⟩
  | 107 => ⟨S163840, .i32⟩
  | 108 => ⟨S163840x1, .i32⟩
  | 109 => ⟨S163841, .f32⟩
  | 110 => ⟨S163840, .f32⟩
  | 111 => ⟨S_, .f32⟩
  | 112 => ⟨S163841, .f32⟩
  | 113 => ⟨S80x2048x1, .f32⟩
  | 114 => ⟨S80x2048, .f32⟩
  | 115 => ⟨S163840, .f32⟩
  | 116 => ⟨S_, .i32⟩
  | 117 => ⟨S163840, .i32⟩
  | 118 => ⟨S163840, .i1⟩
  | 119 => ⟨S_, .i32⟩
  | 120 => ⟨S163840, .i32⟩
  | 121 => ⟨S163840, .i32⟩
  | 122 => ⟨S163840, .i32⟩
  | 123 => ⟨S163840x1, .i32⟩
  | 124 => ⟨S163841, .f32⟩
  | 125 => ⟨S163840, .f32⟩
  | 126 => ⟨S5x16x2048, .f32⟩
  | 127 => ⟨S5x16x2048, .f32⟩
  | _ => ⟨S16x2048, .i32⟩

abbrev hbmTy0_2 (i : Nat) : BufTy := match i % 128 with
  | 0 => ⟨S5x16x2048x1, .f32⟩
  | 1 => ⟨S5x16x2048x1, .f32⟩
  | 2 => ⟨S5x16x2048x2, .f32⟩
  | 3 => ⟨S16x5x2048x2, .f32⟩
  | 4 => ⟨S16x1x2048x1, .i32⟩
  | 5 => ⟨S16x5x2048x1, .i32⟩
  | 6 => ⟨S_, .i32⟩
  | 7 => ⟨S16x5x2048x1, .i32⟩
  | 8 => ⟨S16x5x2048x1, .i1⟩
  | 9 => ⟨S_, .i32⟩
  | 10 => ⟨S16x5x2048x1, .i32⟩
  | 11 => ⟨S16x5x2048x1, .i32⟩
  | 12 => ⟨S16x5x2048x1, .i32⟩
  | 13 => ⟨S16x5x2048x1x1, .i32⟩
  | 14 => ⟨S1, .i32⟩
  | 15 => ⟨S_, .i32⟩
  | 16 => ⟨S16x5x2048x1x1, .i32⟩
  | 17 => ⟨S16x5x2048x1x1, .i1⟩
  | 18 => ⟨S1x1x1x1x1, .i32⟩
  | 19 => ⟨S16x5x2048x1x1, .i32⟩
  | 20 => ⟨S16x5x2048x1x1, .i1⟩
  | 21 => ⟨S16x5x2048x1x1, .i1⟩
  | 22 => ⟨S_, .i1⟩
  | 23 => ⟨S16x5x2048x1, .i1⟩
  | 24 => ⟨S16x5x2048x1, .f32⟩
  | 25 => ⟨S_, .f32⟩
  | 26 => ⟨S16x5x2048x1, .f32⟩
  | 27 => ⟨S16x5x2048x1, .f32⟩
  | 28 => ⟨S16x5x2048, .f32⟩
  | 29 => ⟨S_, .f32⟩
  | 30 => ⟨S_, .f32⟩
  | 31 => ⟨S16x5x2048, .f32⟩
  | 32 => ⟨S16x5x2048, .f32⟩
  | 33 => ⟨S_, .f32⟩
  | 34 => ⟨S16x2048, .f32⟩
  | 35 => ⟨S_, .f32⟩
  | 36 => ⟨S16x2048, .f32⟩
  | 37 => ⟨S16x2048, .f32⟩
  | 38 => ⟨S16x1x2048, .f32⟩
  | 39 => ⟨S16x5x2048, .f32⟩
  | 40 => ⟨S16x5x2048, .f32⟩
  | 41 => ⟨S16x5x2048, .f32⟩
  | 42 => ⟨S_, .f32⟩
  | 43 => ⟨S16x2048, .f32⟩
  | 44 => ⟨S16x1x2048, .f32⟩
  | 45 => ⟨S16x1x2048, .f32⟩
  | 46 => ⟨S16x5x2048, .f32⟩
  | 47 => ⟨S16x5x2048, .f32⟩
  | 48 => ⟨S16x5x2048x1, .f32⟩
  | 49 => ⟨S16x5x2048x2, .f32⟩
  | 50 => ⟨S16x5x2048x2, .f32⟩
  | 51 => ⟨S16x5x2048x2, .f32⟩
  | 52 => ⟨S_, .f32⟩
  | 53 => ⟨S16x2048x2, .f32⟩
  | 54 => ⟨S16x2048x2, .f32⟩
  | _ => ⟨S16x2048, .i32⟩

abbrev hbmTy (i : Nat) : BufTy := match i / 128 with
  | 0 => hbmTy0_0 i
  | 1 => hbmTy0_1 i
  | 2 => hbmTy0_2 i
  | _ => ⟨S16x2048, .i32⟩

abbrev bufTy : (tb : Table) → Fin (tcTables nBuf tb) → BufTy
  | .hbm, ⟨i, _⟩ => hbmTy i
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_3 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_9 : Ref sig .tc := ⟨.hbm, 93, rfl⟩
abbrev main_v74 : Ref sig .tc := ⟨.hbm, 94, rfl⟩
abbrev main_v75 : Ref sig .tc := ⟨.hbm, 95, rfl⟩
abbrev main_cst_10 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_11 : Ref sig .tc := ⟨.hbm, 101, rfl⟩
abbrev main_v80 : Ref sig .tc := ⟨.hbm, 102, rfl⟩
abbrev main_v81 : Ref sig .tc := ⟨.hbm, 103, rfl⟩
abbrev main_cst_12 : Ref sig .tc := ⟨.hbm, 104, rfl⟩
abbrev main_v82 : Ref sig .tc := ⟨.hbm, 105, rfl⟩
abbrev main_v83 : Ref sig .tc := ⟨.hbm, 106, rfl⟩
abbrev main_cst_13 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_14 : Ref sig .tc := ⟨.hbm, 115, rfl⟩
abbrev main_v91 : Ref sig .tc := ⟨.hbm, 116, rfl⟩
abbrev main_c_15 : Ref sig .tc := ⟨.hbm, 117, rfl⟩
abbrev main_v92_0 : Ref sig .tc := ⟨.hbm, 118, rfl⟩
abbrev main_v92_1 : Ref sig .tc := ⟨.hbm, 119, rfl⟩
abbrev main_v92_2 : Ref sig .tc := ⟨.hbm, 120, rfl⟩
abbrev main_v92_3 : Ref sig .tc := ⟨.hbm, 121, rfl⟩
abbrev main_v92_4 : Ref sig .tc := ⟨.hbm, 122, rfl⟩
abbrev main_v92_5 : Ref sig .tc := ⟨.hbm, 123, rfl⟩
abbrev main_v92_6 : Ref sig .tc := ⟨.hbm, 124, rfl⟩
abbrev main_while0c_c_35 : Ref sig .tc := ⟨.hbm, 125, rfl⟩
abbrev main_while0c_v151 : Ref sig .tc := ⟨.hbm, 126, rfl⟩
abbrev main_while0b_call0_c : Ref sig .tc := ⟨.hbm, 127, rfl⟩
abbrev main_while0b_call0_v0 : Ref sig .tc := ⟨.hbm, 128, rfl⟩
abbrev main_while0b_v151 : Ref sig .tc := ⟨.hbm, 129, rfl⟩
abbrev main_while0b_call1_c : Ref sig .tc := ⟨.hbm, 130, rfl⟩
abbrev main_while0b_call1_c_0 : Ref sig .tc := ⟨.hbm, 131, rfl⟩
abbrev main_while0b_call1_v0 : Ref sig .tc := ⟨.hbm, 132, rfl⟩
abbrev main_while0b_v152 : Ref sig .tc := ⟨.hbm, 133, rfl⟩
abbrev main_while0b_v153 : Ref sig .tc := ⟨.hbm, 134, rfl⟩
abbrev main_while0b_cst_35 : Ref sig .tc := ⟨.hbm, 135, rfl⟩
abbrev main_while0b_v154 : Ref sig .tc := ⟨.hbm, 136, rfl⟩
abbrev main_while0b_cst_36 : Ref sig .tc := ⟨.hbm, 137, rfl⟩
abbrev main_while0b_cst_37 : Ref sig .tc := ⟨.hbm, 138, rfl⟩
abbrev main_while0b_call2_v0 : Ref sig .tc := ⟨.hbm, 139, rfl⟩
abbrev main_while0b_call2_v1 : Ref sig .tc := ⟨.hbm, 140, rfl⟩
abbrev main_while0b_call2_v2 : Ref sig .tc := ⟨.hbm, 141, rfl⟩
abbrev main_while0b_call2_v3 : Ref sig .tc := ⟨.hbm, 142, rfl⟩
abbrev main_while0b_call2_v4 : Ref sig .tc := ⟨.hbm, 143, rfl⟩
abbrev main_while0b_v155 : Ref sig .tc := ⟨.hbm, 144, rfl⟩
abbrev main_while0b_v156 : Ref sig .tc := ⟨.hbm, 145, rfl⟩
abbrev main_while0b_v157 : Ref sig .tc := ⟨.hbm, 146, rfl⟩
abbrev main_while0b_v158 : Ref sig .tc := ⟨.hbm, 147, rfl⟩
abbrev main_while0b_v159 : Ref sig .tc := ⟨.hbm, 148, rfl⟩
abbrev main_while0b_v160 : Ref sig .tc := ⟨.hbm, 149, rfl⟩
abbrev main_while0b_v161 : Ref sig .tc := ⟨.hbm, 150, rfl⟩
abbrev main_while0b_v162 : Ref sig .tc := ⟨.hbm, 151, rfl⟩
abbrev main_while0b_c_38 : Ref sig .tc := ⟨.hbm, 152, rfl⟩
abbrev main_while0b_v163 : Ref sig .tc := ⟨.hbm, 153, rfl⟩
abbrev main_while0b_v164 : Ref sig .tc := ⟨.hbm, 154, rfl⟩
abbrev main_while0b_cst_39 : Ref sig .tc := ⟨.hbm, 155, rfl⟩
abbrev main_while0b_v165 : Ref sig .tc := ⟨.hbm, 156, rfl⟩
abbrev main_while0b_v166 : Ref sig .tc := ⟨.hbm, 157, rfl⟩
abbrev main_while0b_call3_v0 : Ref sig .tc := ⟨.hbm, 158, rfl⟩
abbrev main_while0b_v167 : Ref sig .tc := ⟨.hbm, 159, rfl⟩
abbrev main_while0b_v168 : Ref sig .tc := ⟨.hbm, 160, rfl⟩
abbrev main_while0b_cst_40 : Ref sig .tc := ⟨.hbm, 161, rfl⟩
abbrev main_while0b_v169 : Ref sig .tc := ⟨.hbm, 162, rfl⟩
abbrev main_while0b_v170 : Ref sig .tc := ⟨.hbm, 163, rfl⟩
abbrev main_while0b_cst_41 : Ref sig .tc := ⟨.hbm, 164, rfl⟩
abbrev main_while0b_call4_v0 : Ref sig .tc := ⟨.hbm, 165, rfl⟩
abbrev main_while0b_call4_v1 : Ref sig .tc := ⟨.hbm, 166, rfl⟩
abbrev main_while0b_v171 : Ref sig .tc := ⟨.hbm, 167, rfl⟩
abbrev main_while0b_v172 : Ref sig .tc := ⟨.hbm, 168, rfl⟩
abbrev main_while0b_v173 : Ref sig .tc := ⟨.hbm, 169, rfl⟩
abbrev main_while0b_v174 : Ref sig .tc := ⟨.hbm, 170, rfl⟩
abbrev main_while0b_v175 : Ref sig .tc := ⟨.hbm, 171, rfl⟩
abbrev main_while0b_cst_42 : Ref sig .tc := ⟨.hbm, 172, rfl⟩
abbrev main_while0b_v176 : Ref sig .tc := ⟨.hbm, 173, rfl⟩
abbrev main_while0b_v177 : Ref sig .tc := ⟨.hbm, 174, rfl⟩
abbrev main_while0b_v178 : Ref sig .tc := ⟨.hbm, 175, rfl⟩
abbrev main_while0b_v179 : Ref sig .tc := ⟨.hbm, 176, rfl⟩
abbrev main_while0b_v180 : Ref sig .tc := ⟨.hbm, 177, rfl⟩
abbrev main_while0b_v181 : Ref sig .tc := ⟨.hbm, 178, rfl⟩
abbrev main_while0b_v182 : Ref sig .tc := ⟨.hbm, 179, rfl⟩
abbrev main_while0b_v183 : Ref sig .tc := ⟨.hbm, 180, rfl⟩
abbrev main_while0b_v184 : Ref sig .tc := ⟨.hbm, 181, rfl⟩
abbrev main_while0b_v185 : Ref sig .tc := ⟨.hbm, 182, rfl⟩
abbrev main_while0b_v186 : Ref sig .tc := ⟨.hbm, 183, rfl⟩
abbrev main_while0b_v187 : Ref sig .tc := ⟨.hbm, 184, rfl⟩
abbrev main_while0b_cst_43 : Ref sig .tc := ⟨.hbm, 185, rfl⟩
abbrev main_while0b_v188 : Ref sig .tc := ⟨.hbm, 186, rfl⟩
abbrev main_while0b_v189 : Ref sig .tc := ⟨.hbm, 187, rfl⟩
abbrev main_while0b_v190 : Ref sig .tc := ⟨.hbm, 188, rfl⟩
abbrev main_while0b_v191 : Ref sig .tc := ⟨.hbm, 189, rfl⟩
abbrev main_while0b_v192 : Ref sig .tc := ⟨.hbm, 190, rfl⟩
abbrev main_while0b_v193 : Ref sig .tc := ⟨.hbm, 191, rfl⟩
abbrev main_while0b_v194 : Ref sig .tc := ⟨.hbm, 192, rfl⟩
abbrev main_while0b_call5_v0 : Ref sig .tc := ⟨.hbm, 193, rfl⟩
abbrev main_while0b_call5_c : Ref sig .tc := ⟨.hbm, 194, rfl⟩
abbrev main_while0b_call5_c_0 : Ref sig .tc := ⟨.hbm, 195, rfl⟩
abbrev main_while0b_v195 : Ref sig .tc := ⟨.hbm, 196, rfl⟩
abbrev main_while0b_c_44 : Ref sig .tc := ⟨.hbm, 197, rfl⟩
abbrev main_while0b_v196 : Ref sig .tc := ⟨.hbm, 198, rfl⟩
abbrev main_v93 : Ref sig .tc := ⟨.hbm, 199, rfl⟩
abbrev main_v94 : Ref sig .tc := ⟨.hbm, 200, rfl⟩
abbrev main_c_16 : Ref sig .tc := ⟨.hbm, 201, rfl⟩
abbrev main_v95 : Ref sig .tc := ⟨.hbm, 202, rfl⟩
abbrev main_v96 : Ref sig .tc := ⟨.hbm, 203, rfl⟩
abbrev main_c_17 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_c_18 : Ref sig .tc := ⟨.hbm, 209, rfl⟩
abbrev main_v101 : Ref sig .tc := ⟨.hbm, 210, rfl⟩
abbrev main_v102 : Ref sig .tc := ⟨.hbm, 211, rfl⟩
abbrev main_c_19 : Ref sig .tc := ⟨.hbm, 212, rfl⟩
abbrev main_call6_v0 : Ref sig .tc := ⟨.hbm, 213, rfl⟩
abbrev main_call6_v1 : Ref sig .tc := ⟨.hbm, 214, rfl⟩
abbrev main_v103 : Ref sig .tc := ⟨.hbm, 215, rfl⟩
abbrev main_v104 : Ref sig .tc := ⟨.hbm, 216, rfl⟩
abbrev main_c_20 : Ref sig .tc := ⟨.hbm, 217, rfl⟩
abbrev main_v105 : Ref sig .tc := ⟨.hbm, 218, rfl⟩
abbrev main_v106 : Ref sig .tc := ⟨.hbm, 219, rfl⟩
abbrev main_c_21 : Ref sig .tc := ⟨.hbm, 220, rfl⟩
abbrev main_call7_v0 : Ref sig .tc := ⟨.hbm, 221, rfl⟩
abbrev main_call7_v1 : Ref sig .tc := ⟨.hbm, 222, rfl⟩
abbrev main_v107 : Ref sig .tc := ⟨.hbm, 223, rfl⟩
abbrev main_cst_22 : Ref sig .tc := ⟨.hbm, 224, rfl⟩
abbrev main_v108 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_c_23 : Ref sig .tc := ⟨.hbm, 229, rfl⟩
abbrev main_v112 : Ref sig .tc := ⟨.hbm, 230, rfl⟩
abbrev main_v113 : Ref sig .tc := ⟨.hbm, 231, rfl⟩
abbrev main_c_24 : Ref sig .tc := ⟨.hbm, 232, rfl⟩
abbrev main_v114 : Ref sig .tc := ⟨.hbm, 233, rfl⟩
abbrev main_v115 : Ref sig .tc := ⟨.hbm, 234, rfl⟩
abbrev main_v116 : Ref sig .tc := ⟨.hbm, 235, rfl⟩
abbrev main_v117 : Ref sig .tc := ⟨.hbm, 236, rfl⟩
abbrev main_v118 : Ref sig .tc := ⟨.hbm, 237, rfl⟩
abbrev main_v119 : Ref sig .tc := ⟨.hbm, 238, rfl⟩
abbrev main_cst_25 : Ref sig .tc := ⟨.hbm, 239, rfl⟩
abbrev main_v120 : Ref sig .tc := ⟨.hbm, 240, rfl⟩
abbrev main_v121 : Ref sig .tc := ⟨.hbm, 241, rfl⟩
abbrev main_v122 : Ref sig .tc := ⟨.hbm, 242, rfl⟩
abbrev main_v123 : Ref sig .tc := ⟨.hbm, 243, rfl⟩
abbrev main_c_26 : Ref sig .tc := ⟨.hbm, 244, rfl⟩
abbrev main_v124 : Ref sig .tc := ⟨.hbm, 245, rfl⟩
abbrev main_v125 : Ref sig .tc := ⟨.hbm, 246, rfl⟩
abbrev main_c_27 : Ref sig .tc := ⟨.hbm, 247, rfl⟩
abbrev main_v126 : Ref sig .tc := ⟨.hbm, 248, rfl⟩
abbrev main_v127 : Ref sig .tc := ⟨.hbm, 249, rfl⟩
abbrev main_v128 : Ref sig .tc := ⟨.hbm, 250, rfl⟩
abbrev main_v129 : Ref sig .tc := ⟨.hbm, 251, rfl⟩
abbrev main_v130 : Ref sig .tc := ⟨.hbm, 252, rfl⟩
abbrev main_v131 : Ref sig .tc := ⟨.hbm, 253, rfl⟩
abbrev main_v132 : Ref sig .tc := ⟨.hbm, 254, rfl⟩
abbrev main_v133 : Ref sig .tc := ⟨.hbm, 255, rfl⟩
abbrev main_v134 : Ref sig .tc := ⟨.hbm, 256, rfl⟩
abbrev main_v135 : Ref sig .tc := ⟨.hbm, 257, rfl⟩
abbrev main_v136 : Ref sig .tc := ⟨.hbm, 258, rfl⟩
abbrev main_v137 : Ref sig .tc := ⟨.hbm, 259, rfl⟩
abbrev main_v138 : Ref sig .tc := ⟨.hbm, 260, rfl⟩
abbrev main_v139 : Ref sig .tc := ⟨.hbm, 261, rfl⟩
abbrev main_call8_c : Ref sig .tc := ⟨.hbm, 262, rfl⟩
abbrev main_call8_v0 : Ref sig .tc := ⟨.hbm, 263, rfl⟩
abbrev main_call8_v1 : Ref sig .tc := ⟨.hbm, 264, rfl⟩
abbrev main_call8_c_0 : Ref sig .tc := ⟨.hbm, 265, rfl⟩
abbrev main_call8_v2 : Ref sig .tc := ⟨.hbm, 266, rfl⟩
abbrev main_call8_v3 : Ref sig .tc := ⟨.hbm, 267, rfl⟩
abbrev main_call8_v4 : Ref sig .tc := ⟨.hbm, 268, rfl⟩
abbrev main_call8_v5 : Ref sig .tc := ⟨.hbm, 269, rfl⟩
abbrev main_call8_c_1 : Ref sig .tc := ⟨.hbm, 270, rfl⟩
abbrev main_call8_c_2 : Ref sig .tc := ⟨.hbm, 271, rfl⟩
abbrev main_call8_v6 : Ref sig .tc := ⟨.hbm, 272, rfl⟩
abbrev main_call8_v7 : Ref sig .tc := ⟨.hbm, 273, rfl⟩
abbrev main_call8_v8 : Ref sig .tc := ⟨.hbm, 274, rfl⟩
abbrev main_call8_v9 : Ref sig .tc := ⟨.hbm, 275, rfl⟩
abbrev main_call8_v10 : Ref sig .tc := ⟨.hbm, 276, rfl⟩
abbrev main_call8_v11 : Ref sig .tc := ⟨.hbm, 277, rfl⟩
abbrev main_call8_c_3 : Ref sig .tc := ⟨.hbm, 278, rfl⟩
abbrev main_call8_v12 : Ref sig .tc := ⟨.hbm, 279, rfl⟩
abbrev main_call8_v13 : Ref sig .tc := ⟨.hbm, 280, rfl⟩
abbrev main_call8_cst : Ref sig .tc := ⟨.hbm, 281, rfl⟩
abbrev main_call8_v14 : Ref sig .tc := ⟨.hbm, 282, rfl⟩
abbrev main_v140 : Ref sig .tc := ⟨.hbm, 283, rfl⟩
abbrev main_v141 : Ref sig .tc := ⟨.hbm, 284, rfl⟩
abbrev main_call9_call0_cst : Ref sig .tc := ⟨.hbm, 285, rfl⟩
abbrev main_call9_call0_v0 : Ref sig .tc := ⟨.hbm, 286, rfl⟩
abbrev main_v142 : Ref sig .tc := ⟨.hbm, 287, rfl⟩
abbrev main_v143 : Ref sig .tc := ⟨.hbm, 288, rfl⟩
abbrev main_call10_cst : Ref sig .tc := ⟨.hbm, 289, rfl⟩
abbrev main_call10_v0 : Ref sig .tc := ⟨.hbm, 290, rfl⟩
abbrev main_call10_cst_0 : Ref sig .tc := ⟨.hbm, 291, rfl⟩
abbrev main_call10_v1 : Ref sig .tc := ⟨.hbm, 292, rfl⟩
abbrev main_call10_v2 : Ref sig .tc := ⟨.hbm, 293, rfl⟩
abbrev main_call10_v3 : Ref sig .tc := ⟨.hbm, 294, rfl⟩
abbrev main_call10_v4 : Ref sig .tc := ⟨.hbm, 295, rfl⟩
abbrev main_call10_v5 : Ref sig .tc := ⟨.hbm, 296, rfl⟩
abbrev main_call10_v6 : Ref sig .tc := ⟨.hbm, 297, rfl⟩
abbrev main_call10_cst_1 : Ref sig .tc := ⟨.hbm, 298, rfl⟩
abbrev main_call10_v7 : Ref sig .tc := ⟨.hbm, 299, rfl⟩
abbrev main_call10_v8 : Ref sig .tc := ⟨.hbm, 300, rfl⟩
abbrev main_call10_v9 : Ref sig .tc := ⟨.hbm, 301, rfl⟩
abbrev main_call10_v10 : Ref sig .tc := ⟨.hbm, 302, rfl⟩
abbrev main_v144 : Ref sig .tc := ⟨.hbm, 303, rfl⟩
abbrev main_v145 : Ref sig .tc := ⟨.hbm, 304, rfl⟩
abbrev main_v146 : Ref sig .tc := ⟨.hbm, 305, rfl⟩
abbrev main_v147 : Ref sig .tc := ⟨.hbm, 306, rfl⟩
abbrev main_v148 : Ref sig .tc := ⟨.hbm, 307, rfl⟩
abbrev main_cst_28 : Ref sig .tc := ⟨.hbm, 308, rfl⟩
abbrev main_v149 : Ref sig .tc := ⟨.hbm, 309, rfl⟩
abbrev main_v150 : Ref sig .tc := ⟨.hbm, 310, rfl⟩

abbrev nD : Nat := 1
abbrev τ : Topo := Topo.v7x

variable {F : FTy → Type} [FloatOps F]

abbrev main_while0_count : Scf.Loop 32 := ⟨0#32, 2048#32, 1#32⟩
-- ==== Proof.Scan.lean ====
/- The kernel's two doubling scans as operations on arrays of 80 rows and 2048 columns. -/
module

public import proofs.«01_k».proof.Proof.Gen.KernelIdeal.Skeleton
public import Idealize.ShloMosaic.Lib.Pointwise
public import Idealize.ShloMosaic.Lib.IdealHost

@[expose] public section

set_option maxRecDepth 16384

noncomputable section

namespace Cert.Scan

open Idealize.ShloMosaic Cert.KernelIdeal Cert.KernelIdeal.Gen

/-- An array of one number per row (a chain of trials) and column (a time). -/
abbrev V := FVec Ideal S80x2048 .f32

/-- The columns moved `d` places to the right, `c` filled in. -/
def shift (d : ℕ) (c : EReal) (x : V) : V := fun i =>
  if (i 1).val < d then c else x (ix2 (i 0) ⟨(i 1).val - d, lt_of_le_of_lt (Nat.sub_le _ _) (i 1).isLt⟩)

/-- A constant block joined with the leading columns of `x` is `x` moved to the right. -/
theorem concat_shift {a b : ℕ} (c : Ideal .f32) (x : V)
    (hs : S80x2048.Slices ![0, 0] (⟨2, ![80, b]⟩ : Shape))
    (hc : Shape.Concatenates [(⟨2, ![80, a]⟩ : Shape), ⟨2, ![80, b]⟩] S80x2048 1) :
    concatenate S80x2048 1 [⟨(⟨2, ![80, a]⟩ : Shape), broadcast (⟨2, ![80, a]⟩ : Shape) c⟩,
      ⟨(⟨2, ![80, b]⟩ : Shape), extractStridedSlice (⟨2, ![80, b]⟩ : Shape) ![0, 0] x hs⟩] hc = shift a c x := by
  have hab : a + b = 2048 := by
    have := hc.2.2
    simpa using this
  funext i
  have hi : (i 1).val < 2048 := (i 1).isLt
  unfold shift
  split
  · rename_i h
    exact concatenate_pair_apply_left 1 _ _ hc i rfl (ix2 (i 0) ⟨(i 1).val, h⟩ : (⟨2, ![80, a]⟩ : Shape).Idx)
      (fun b => by fin_cases b <;> rfl)
  · rename_i h
    refine (concatenate_pair_apply_right 1 _ _ hc i rfl rfl
      (ix2 (i 0) ⟨(i 1).val - a, by omega⟩ : (⟨2, ![80, b]⟩ : Shape).Idx) (fun b hb => ?_) ?_).trans ?_
    · fin_cases b
      · rfl
      · exact absurd rfl hb
    · show (i 1).val - a + a = (i 1).val
      omega
    · exact extractStridedSlice_apply _ _ _ _ _ (fun b => by fin_cases b <;> simp)

/-- The constants of the scans. -/
abbrev one : Ideal .f32 := Scalar.ofBits .f32 0x3F800000#32

@[inherit_doc one]
abbrev zero : Ideal .f32 := Scalar.ofBits .f32 0x00000000#32

/-- Four arrays, the entries of a 2 by 2 matrix at every row and time. -/
structure M4 where
  /-- the entry of row 0, column 0 -/
  a : V
  /-- the entry of row 0, column 1 -/
  b : V
  /-- the entry of row 1, column 0 -/
  c : V
  /-- the entry of row 1, column 1 -/
  d : V

/-- The matrices moved `d` places to the right, the identity filled in. -/
def shM (d : ℕ) (P : M4) : M4 := ⟨shift d one P.a, shift d zero P.b, shift d zero P.c, shift d one P.d⟩

/-- The matrix product at every place. -/
def prod (P Q : M4) : M4 :=
  ⟨addf (mulf P.a Q.a) (mulf P.b Q.c), addf (mulf P.a Q.b) (mulf P.b Q.d),
   addf (mulf P.c Q.a) (mulf P.d Q.c), addf (mulf P.c Q.b) (mulf P.d Q.d)⟩

/-- The sum of the four entries. -/
def tot (N : M4) : V := addf (addf (addf N.a N.b) N.c) N.d

/-- One over the sum of the four entries. -/
def inv (N : M4) : V := divf (broadcast S80x2048 one) (tot N)

/-- The entries times one over their sum. -/
def nrm (N : M4) : M4 := ⟨mulf N.a (inv N), mulf N.b (inv N), mulf N.c (inv N), mulf N.d (inv N)⟩

/-- One round of the doubling scan. -/
def step (d : ℕ) (P : M4) : M4 := nrm (prod P (shM d P))

/-- One round of the doubling prefix sum. -/
def acc (d : ℕ) (x : V) : V := addf x (shift d zero x)

/-- The matrices that the scan starts from: the step matrices of the time before. -/
def start (l0 l1 : V) (pL pF : FVec Ideal S80x1 .f32) : M4 :=
  ⟨shift 1 one (mulf (broadcastTo S80x2048 (subf (broadcast S80x1 one) pL) broadcasts_S80x1_S80x2048) l0),
   shift 1 zero (mulf (broadcastTo S80x2048 pF broadcasts_S80x1_S80x2048) l1),
   shift 1 zero (mulf (broadcastTo S80x2048 pL broadcasts_S80x1_S80x2048) l0),
   shift 1 one (mulf (broadcastTo S80x2048 (subf (broadcast S80x1 one) pF) broadcasts_S80x1_S80x2048) l1)⟩

/-- Up to the first products: the scan's start, its move and three of the four products. -/
theorem part3 (l0 l1 : V) (pL : FVec Ideal S80x1 .f32) (pF : FVec Ideal S5x16x1 .f32) :
    k0_pay19 l0 pL = (start l0 l1 pL (k0_pay15 pF)).c ∧
    k0_pay20 l1 pF = (start l0 l1 pL (k0_pay15 pF)).d ∧
    k0_pay22 l1 pF = shift 1 zero (start l0 l1 pL (k0_pay15 pF)).b ∧
    k0_pay24 l1 pF = shift 1 one (start l0 l1 pL (k0_pay15 pF)).d ∧
    k0_pay25 l0 l1 pL pF = (prod (start l0 l1 pL (k0_pay15 pF)) (shM 1 (start l0 l1 pL (k0_pay15 pF)))).a ∧
    k0_pay26 l0 l1 pL pF = (prod (start l0 l1 pL (k0_pay15 pF)) (shM 1 (start l0 l1 pL (k0_pay15 pF)))).b ∧
    k0_pay27 l0 l1 pL pF = (prod (start l0 l1 pL (k0_pay15 pF)) (shM 1 (start l0 l1 pL (k0_pay15 pF)))).c := by
  refine ⟨?_, ?_, ?_, ?_, ?_, ?_, ?_⟩ <;>
    simp only [k0_pay17, k0_pay18, k0_pay19, k0_pay20, k0_pay21, k0_pay22, k0_pay23, k0_pay24, k0_pay25, k0_pay26, k0_pay27, start, step, nrm, inv, tot, prod, shM, concat_shift, acc]

/-- The rounds of widths 1 and 2. -/
theorem part4 (P : M4) :
    k0_pay43 P.c P.d (shift 1 zero P.b) (shift 1 one P.d) (prod P (shM 1 P)).a (prod P (shM 1 P)).b (prod P (shM 1 P)).c = (step 2 (step 1 P)).a ∧
    k0_pay44 P.c P.d (shift 1 zero P.b) (shift 1 one P.d) (prod P (shM 1 P)).a (prod P (shM 1 P)).b (prod P (shM 1 P)).c = (step 2 (step 1 P)).b ∧
    k0_pay45 P.c P.d (shift 1 zero P.b) (shift 1 one P.d) (prod P (shM 1 P)).a (prod P (shM 1 P)).b (prod P (shM 1 P)).c = (step 2 (step 1 P)).c ∧
    k0_pay46 P.c P.d (shift 1 zero P.b) (shift 1 one P.d) (prod P (shM 1 P)).a (prod P (shM 1 P)).b (prod P (shM 1 P)).c = (step 2 (step 1 P)).d ∧
    k0_pay47 P.c P.d (shift 1 zero P.b) (shift 1 one P.d) (prod P (shM 1 P)).a (prod P (shM 1 P)).b (prod P (shM 1 P)).c = shift 4 one (step 2 (step 1 P)).a ∧
    k0_pay48 P.c P.d (shift 1 zero P.b) (shift 1 one P.d) (prod P (shM 1 P)).a (prod P (shM 1 P)).b (prod P (shM 1 P)).c = shift 4 zero (step 2 (step 1 P)).b := by
  refine ⟨?_, ?_, ?_, ?_, ?_, ?_⟩ <;>
    simp only [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, start, step, nrm, inv, tot, prod, shM, concat_shift, acc]

/-- The round of width 4 and the products of the next. -/
theorem part5 (P : M4) :
    k0_pay64 P.a P.b P.c P.d (shift 4 one P.a) (shift 4 zero P.b) zero = (prod (step 4 P) (shM 8 (step 4 P))).a ∧
    k0_pay65 P.a P.b P.c P.d (shift 4 one P.a) (shift 4 zero P.b) zero = (prod (step 4 P) (shM 8 (step 4 P))).b ∧
    k0_pay66 P.a P.b P.c P.d (shift 4 one P.a) (shift 4 zero P.b) zero = (prod (step 4 P) (shM 8 (step 4 P))).c ∧
    k0_pay67 P.a P.b P.c P.d (shift 4 one P.a) (shift 4 zero P.b) zero = (prod (step 4 P) (shM 8 (step 4 P))).d ∧
    k0_pay68 P.a P.b P.c P.d (shift 4 one P.a) (shift 4 zero P.b) zero = tot (prod (step 4 P) (shM 8 (step 4 P))) := by
  refine ⟨?_, ?_, ?_, ?_, ?_⟩ <;>
    simp only [k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, start, step, nrm, inv, tot, prod, shM, concat_shift, acc]

/-- The end of a round, the round of width 16, and the next move. -/
theorem part6 (N : M4) :
    k0_pay83 N.a N.b N.c N.d (tot N) = (step 16 (nrm N)).a ∧
    k0_pay84 N.a N.b N.c N.d (tot N) = (step 16 (nrm N)).b ∧
    k0_pay85 N.a N.b N.c N.d (tot N) = (step 16 (nrm N)).c ∧
    k0_pay86 N.a N.b N.c N.d (tot N) = (step 16 (nrm N)).d ∧
    k0_pay87 N.a N.b N.c N.d (tot N) = shift 32 one (step 16 (nrm N)).a ∧
    k0_pay88 N.a N.b N.c N.d (tot N) = shift 32 zero (step 16 (nrm N)).b ∧
    k0_pay89 N.a N.b N.c N.d (tot N) = shift 32 zero (step 16 (nrm N)).c ∧
    k0_pay90 (F := Ideal) = broadcast S80x32 one ∧
    k0_pay91 N.a N.b N.c N.d (tot N) = extractStridedSlice S80x2016 ![0, 0] (step 16 (nrm N)).d slices_S80x2048_o0_0_S80x2016 := by
  refine ⟨?_, ?_, ?_, ?_, ?_, ?_, ?_, ?_, ?_⟩ <;>
    simp only [k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, start, step, nrm, inv, tot, prod, shM, concat_shift, acc]

/-- The round of width 32 and most of the next. -/
theorem part7 (P : M4) :
    k0_pay109 P.a P.b P.c P.d (shift 32 one P.a) (shift 32 zero P.b) (shift 32 zero P.c) (broadcast S80x32 one)
      (extractStridedSlice S80x2016 ![0, 0] P.d slices_S80x2048_o0_0_S80x2016) = (prod (step 32 P) (shM 64 (step 32 P))).d ∧
    k0_pay110 P.a P.b P.c P.d (shift 32 one P.a) (shift 32 zero P.b) (shift 32 zero P.c) (broadcast S80x32 one)
      (extractStridedSlice S80x2016 ![0, 0] P.d slices_S80x2048_o0_0_S80x2016) = inv (prod (step 32 P) (shM 64 (step 32 P))) ∧
    k0_pay111 P.a P.b P.c P.d (shift 32 one P.a) (shift 32 zero P.b) (shift 32 zero P.c) (broadcast S80x32 one)
      (extractStridedSlice S80x2016 ![0, 0] P.d slices_S80x2048_o0_0_S80x2016) = (nrm (prod (step 32 P) (shM 64 (step 32 P)))).a ∧
    k0_pay112 P.a P.b P.c P.d (shift 32 one P.a) (shift 32 zero P.b) (shift 32 zero P.c) (broadcast S80x32 one)
      (extractStridedSlice S80x2016 ![0, 0] P.d slices_S80x2048_o0_0_S80x2016) = (nrm (prod (step 32 P) (shM 64 (step 32 P)))).b ∧
    k0_pay113 P.a P.b P.c P.d (shift 32 one P.a) (shift 32 zero P.b) (shift 32 zero P.c) (broadcast S80x32 one)
      (extractStridedSlice S80x2016 ![0, 0] P.d slices_S80x2048_o0_0_S80x2016) = (nrm (prod (step 32 P) (shM 64 (step 32 P)))).c := by
  refine ⟨?_, ?_, ?_, ?_, ?_⟩ <;>
    simp only [k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, start, step, nrm, inv, tot, prod, shM, concat_shift, acc]

/-- The end of a round, the round of width 128, and the next move with the first products. -/
theorem part8 (N : M4) :
    k0_pay126 N.d (inv N) (nrm N).a (nrm N).b (nrm N).c = (step 128 (nrm N)).c ∧
    k0_pay127 N.d (inv N) (nrm N).a (nrm N).b (nrm N).c = (step 128 (nrm N)).d ∧
    k0_pay128 N.d (inv N) (nrm N).a (nrm N).b (nrm N).c = shift 256 one (step 128 (nrm N)).a ∧
    k0_pay129 N.d (inv N) (nrm N).a (nrm N).b (nrm N).c = shift 256 zero (step 128 (nrm N)).b ∧
    k0_pay130 N.d (inv N) (nrm N).a (nrm N).b (nrm N).c = shift 256 zero (step 128 (nrm N)).c ∧
    k0_pay131 N.d (inv N) (nrm N).a (nrm N).b (nrm N).c = shift 256 one (step 128 (nrm N)).d ∧
    k0_pay132 N.d (inv N) (nrm N).a (nrm N).b (nrm N).c = (prod (step 128 (nrm N)) (shM 256 (step 128 (nrm N)))).a ∧
    k0_pay133 N.d (inv N) (nrm N).a (nrm N).b (nrm N).c = mulf (step 128 (nrm N)).a (shift 256 zero (step 128 (nrm N)).b) ∧
    k0_pay134 N.d (inv N) (nrm N).a (nrm N).b (nrm N).c = mulf (step 128 (nrm N)).b (shift 256 one (step 128 (nrm N)).d) := by
  refine ⟨?_, ?_, ?_, ?_, ?_, ?_, ?_, ?_, ?_⟩ <;>
    simp only [k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, start, step, nrm, inv, tot, prod, shM, concat_shift, acc]

/-- The rounds of widths 256 and 512. -/
theorem part9 (P : M4) :
    k0_pay152 P.c P.d (shift 256 one P.a) (shift 256 zero P.b) (shift 256 zero P.c) (shift 256 one P.d) (prod P (shM 256 P)).a
      (mulf P.a (shift 256 zero P.b)) (mulf P.b (shift 256 one P.d)) = (step 512 (step 256 P)).a ∧
    k0_pay153 P.c P.d (shift 256 one P.a) (shift 256 zero P.b) (shift 256 zero P.c) (shift 256 one P.d) (prod P (shM 256 P)).a
      (mulf P.a (shift 256 zero P.b)) (mulf P.b (shift 256 one P.d)) = (step 512 (step 256 P)).b ∧
    k0_pay154 P.c P.d (shift 256 one P.a) (shift 256 zero P.b) (shift 256 zero P.c) (shift 256 one P.d) (prod P (shM 256 P)).a
      (mulf P.a (shift 256 zero P.b)) (mulf P.b (shift 256 one P.d)) = (step 512 (step 256 P)).c ∧
    k0_pay155 P.c P.d (shift 256 one P.a) (shift 256 zero P.b) (shift 256 zero P.c) (shift 256 one P.d) (prod P (shM 256 P)).a
      (mulf P.a (shift 256 zero P.b)) (mulf P.b (shift 256 one P.d)) = (step 512 (step 256 P)).d ∧
    k0_pay156 P.c P.d (shift 256 one P.a) (shift 256 zero P.b) (shift 256 zero P.c) (shift 256 one P.d) (prod P (shM 256 P)).a
      (mulf P.a (shift 256 zero P.b)) (mulf P.b (shift 256 one P.d)) = shift 1024 one (step 512 (step 256 P)).a := by
  refine ⟨?_, ?_, ?_, ?_, ?_⟩ <;>
    simp only [k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, start, step, nrm, inv, tot, prod, shM, concat_shift, acc]

/-- A column spread over all times. -/
def col (x : FVec Ideal S80x1 .f32) : V := broadcastTo S80x2048 x broadcasts_S80x1_S80x2048

/-- One minus an array. -/
def comp (x : V) : V := subf (broadcast S80x2048 one) x

/-- The unnormalised belief in state 0 before each time, from the scanned matrices and the initial belief. -/
def al0 (P : M4) (p : FVec Ideal S80x1 .f32) : V :=
  addf (mulf P.a (broadcastTo S80x2048 (subf (broadcast S80x1 one) p) broadcasts_S80x1_S80x2048)) (mulf P.b (col p))

/-- The unnormalised belief in state 1 before each time. -/
def al1 (P : M4) (p : FVec Ideal S80x1 .f32) : V :=
  addf (mulf P.c (broadcastTo S80x2048 (subf (broadcast S80x1 one) p) broadcasts_S80x1_S80x2048)) (mulf P.d (col p))

/-- One over the sum of two arrays. -/
def invSum (a b : V) : V := divf (broadcast S80x2048 one) (addf a b)

/-- The array held between the two bounds of the probabilities, and its logarithm. -/
def logClip (x : V) : V :=
  log (minimumf (broadcast S80x2048 (Scalar.ofBits .f32 0x3F7FFFEF#32 : Ideal .f32))
    (maximumf (broadcast S80x2048 (Scalar.ofBits .f32 0x358637BD#32 : Ideal .f32)) x))

/-- The mean of two arrays under the normalised beliefs. -/
def mean (a b x y : V) : V := mulf (addf (mulf a x) (mulf b y)) (invSum a b)

/-- Where the target of a trial is 1, in every chain. -/
def isOne (y : Vec Ideal S16x2048 .i32) : IVec S80x2048 1 :=
  shapeCast S80x2048 (broadcastTo S5x16x2048 (shapeCast S1x16x2048 (shapeCast S1x16x2048
    (cmpi .eq y (broadcast S16x2048 1#32)) shapeCasts_S16x2048_S1x16x2048) shapeCasts_S1x16x2048_S1x16x2048)
    broadcasts_S1x16x2048_S5x16x2048) shapeCasts_S5x16x2048_S80x2048

/-- The last round and the unnormalised beliefs. -/
theorem part10 (P : M4) (x y : V) (p : FVec Ideal S80x1 .f32) :
    k0_pay165 p P.a P.b P.c P.d (shift 1024 one P.a) zero = al0 (step 1024 P) p ∧
    k0_pay166 p P.a P.b P.c P.d (shift 1024 one P.a) zero = al1 (step 1024 P) p ∧
    k0_pay167 p P.a P.b P.c P.d (shift 1024 one P.a) zero = invSum (al0 (step 1024 P) p) (al1 (step 1024 P) p) ∧
    k0_pay168 x y p P.a P.b P.c P.d (shift 1024 one P.a) zero = mean (al0 (step 1024 P) p) (al1 (step 1024 P) p) x y ∧
    k0_pay169 x = comp x := by
  refine ⟨?_, ?_, ?_, ?_, ?_⟩ <;>
    simp only [k0_pay157, k0_pay158, k0_pay159, k0_pay160, k0_pay161, k0_pay162, k0_pay163, k0_pay164, k0_pay165, k0_pay166, k0_pay167, k0_pay168, k0_pay169, start, step, nrm, inv, tot, prod, shM, concat_shift, acc, col, comp, al0, al1, invSum, logClip, mean, isOne]

/-- The logarithms of the two probabilities, and the first rounds of the prefix sum. -/
theorem part11 (a b x y p : V) (t : Vec Ideal S16x2048 .i32) :
    k0_pay170 p = logClip p ∧
    k0_pay171 y a b (invSum a b) (comp x) = logClip (mean a b (comp x) (comp y)) ∧
    k0_pay172 t y a b (invSum a b) p (comp x) =
      acc 16 (acc 8 (acc 4 (acc 2 (acc 1 (shift 1 zero (select (isOne t) (logClip p) (logClip (mean a b (comp x) (comp y))))))))) ∧
    k0_pay173 (F := Ideal) = broadcast S80x32 zero := by
  refine ⟨?_, ?_, ?_, ?_⟩ <;>
    simp only [k0_pay170, k0_pay171, k0_pay172, k0_pay173, start, step, nrm, inv, tot, prod, shM, concat_shift, acc, col, comp, al0, al1, invSum, logClip, mean, isOne]

/-- The largest of five arrays, at every trial. -/
def top (x : FVec Ideal S5x16x2048 .f32) : FVec Ideal S16x2048 .f32 :=
  multiReduction .maximumf [0] S16x2048 x 0xFF800000#32 reduces_S5x16x2048_S16x2048 (.inl rfl) rfl

/-- An array of trials for each of the five ability levels. -/
def five (x : FVec Ideal S16x2048 .f32) : FVec Ideal S5x16x2048 .f32 :=
  broadcastTo S5x16x2048 (shapeCast S1x16x2048 x shapeCasts_S16x2048_S1x16x2048) broadcasts_S1x16x2048_S5x16x2048

/-- The logarithm of the sum of the exponentials of five arrays. -/
def lse (x : FVec Ideal S5x16x2048 .f32) : FVec Ideal S16x2048 .f32 :=
  addf (log (multiReduction .add [0] S16x2048 (exp (subf x (five (top x)))) 0x00000000#32 reduces_S5x16x2048_S16x2048
    (.inl rfl) rfl)) (top x)

/-- The chains' array with one index for the ability level and one for the row. -/
def lev (x : V) : FVec Ideal S5x16x2048 .f32 := shapeCast S5x16x2048 x shapeCasts_S80x2048_S5x16x2048

/-- The logarithms of the weights of the ability levels, from their prefix sums. -/
def logw (x : V) : FVec Ideal S5x16x2048 .f32 := subf (lev x) (five (lse (lev x)))

/-- The last rounds of the prefix sum, the weights and the results. -/
theorem part12 (x l0 l1 : V) :
    k0_pay174 x (broadcast S80x32 zero) = logw (acc 1024 (acc 512 (acc 256 (acc 128 (acc 64 (acc 32 x)))))) ∧
    k0_pay177 l0 x (broadcast S80x32 zero) = lse (addf (lev l0) (logw (acc 1024 (acc 512 (acc 256 (acc 128 (acc 64 (acc 32 x)))))))) ∧
    k0_pay1 (k0_pay175 l1 x (broadcast S80x32 zero)) (k0_pay176 l1 x (broadcast S80x32 zero)) = lse (addf (lev l1) (logw (acc 1024 (acc 512 (acc 256 (acc 128 (acc 64 (acc 32 x)))))))) := by
  refine ⟨?_, ?_, ?_⟩ <;>
    simp only [k0_pay1, k0_pay174, k0_pay175, k0_pay176, k0_pay177, start, step, nrm, inv, tot, prod, shM, concat_shift, acc, col, comp, al0, al1, invSum, logClip, mean, isOne, top, five, lse, lev, logw]

end Cert.Scan

end
-- ==== Proof.KOut.lean ====
module
public import proofs.«01_k».proof.Proof.Scan
public import proofs.«01_k».proof.Proof.Gen.KernelIdeal.Frame

/-! What the kernel's body stores in its two outputs, as the scan of the matrices, the beliefs, the logarithms of the
probabilities, the prefix sums of the observed ones and the mean over the ability levels. -/

@[expose] public section
set_option maxRecDepth 16384

namespace Cert.KOut
open Idealize.ShloMosaic Cert.KernelIdeal Cert.KernelIdeal.Gen Cert.Scan

/-- The matrices after the eleven rounds. -/
noncomputable def mats (P : M4) : M4 :=
  step 1024 (step 512 (step 256 (step 128 (step 64 (step 32 (step 16 (step 8 (step 4 (step 2 (step 1 P))))))))))

/-- The sums over the earlier times. -/
noncomputable def presum (x : V) : V :=
  acc 1024 (acc 512 (acc 256 (acc 128 (acc 64 (acc 32 (acc 16 (acc 8 (acc 4 (acc 2 (acc 1 (shift 1 zero x)))))))))))

/-- The likelihoods of the observations in one state. -/
noncomputable def like (x0 : Vec Ideal S16x2048 .i32) (pc : V) : V := select (k0_pay9 x0) pc (comp pc)

/-- The probability of a correct answer, from the matrices. -/
noncomputable def prob (P : M4) (p : FVec Ideal S80x1 .f32) (pc0 pc1 : V) : V := mean (al0 P p) (al1 P p) pc0 pc1

/-- The logarithms of the weights from the two logarithms of the probabilities. -/
noncomputable def weights (t : Vec Ideal S16x2048 .i32) (lp0 lp1 : V) : FVec Ideal S5x16x2048 .f32 :=
  logw (presum (select (isOne t) lp1 lp0))

/-- The matrices the scan starts from. -/
noncomputable def mats0 (x0 : Vec Ideal S16x2048 .i32) (x2 x3 : Vec Ideal S16x2048 .f32) (x4 : Vec Ideal S16x3 .f32)
    (x5 : Vec Ideal S16x2 .f32) : M4 :=
  start (like x0 (k0_pay5 x2 x5)) (like x0 (k0_pay8 (k0_pay6 x3 x5) k0_pay7)) (k0_pay13 (k0_pay2 x4))
    (k0_pay15 (k0_pay14 (k0_pay2 x4)))

/-- The logarithm of the probability of a correct answer. -/
noncomputable def lp1 (x0 : Vec Ideal S16x2048 .i32) (x2 x3 : Vec Ideal S16x2048 .f32) (x4 : Vec Ideal S16x3 .f32)
    (x5 : Vec Ideal S16x2 .f32) : V :=
  logClip (prob (mats (mats0 x0 x2 x3 x4 x5)) (k0_pay16 (k0_pay12 (k0_pay2 x4))) (k0_pay5 x2 x5)
    (k0_pay8 (k0_pay6 x3 x5) k0_pay7))

/-- The logarithm of the probability of a wrong answer. -/
noncomputable def lp0 (x0 : Vec Ideal S16x2048 .i32) (x2 x3 : Vec Ideal S16x2048 .f32) (x4 : Vec Ideal S16x3 .f32)
    (x5 : Vec Ideal S16x2 .f32) : V :=
  logClip (prob (mats (mats0 x0 x2 x3 x4 x5)) (k0_pay16 (k0_pay12 (k0_pay2 x4))) (comp (k0_pay5 x2 x5))
    (comp (k0_pay8 (k0_pay6 x3 x5) k0_pay7)))

theorem unit_zero2 : (![0, 0] : Fin 2 → ℕ) = fun _ => 0 := by
  funext i; fin_cases i <;> rfl

/-- The likelihood in state 0, as the body computes it. -/
theorem like0 (x0 : Vec Ideal S16x2048 .i32) (a : V) : k0_pay10 x0 a = like x0 a := rfl

/-- The likelihood in state 1, as the body computes it. -/
theorem like1 (x0 : Vec Ideal S16x2048 .i32) (a b : FVec Ideal S5x16x2048 .f32) : k0_pay11 x0 a b = like x0 (k0_pay8 a b) := rfl

theorem fold_zero : (Scalar.ofBits .f32 0x00000000#32 : Ideal .f32) = zero := rfl

set_option maxHeartbeats 4000000 in
/-- What the body stores in the first output. -/
theorem out_a (c : Dev nD) (t : Fin cfg0.N) (x0 : Vec Ideal S16x2048 .i32) (x1 : Vec Ideal S16x2048 .i32)
    (x2 x3 : Vec Ideal S16x2048 .f32) (x4 : Vec Ideal S16x3 .f32) (x5 : Vec Ideal S16x2 .f32) (g : PrngReg) :
    out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      x0 x1 x2 x3 x4 x5 g =
    lse (addf (lev (lp0 x0 x2 x3 x4 x5)) (weights x1 (lp0 x0 x2 x3 x4 x5) (lp1 x0 x2 x3 x4 x5))) := by
  unfold out0_A_6
  rw [View.read_writes_eq_canon _ _ _ (cover0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      x0 x1 x2 x3 x4 x5 g)]
  unfold kernelRun0_A
  dsimp only
  sl_unfold_words
  simp only [View.readAt_eq_ld, (hs0_0 t).read_unread, (hs0_1 t).read_unread, (hs0_2 t).read_unread,
    (hs0_3 t).read_unread, (hs0_4 t).read_unread, (hs0_5 t).read_unread, fold_zero]
  rw [View.canon_unit_zero unit_zero2]
  have e0 : View.ld x0 (Rect.unit ![0, 0] ![16, 2048] inb_S16x2048_S16x2048_0_0) = x0 :=
    View.ld_unit_zero (Val := Elt Ideal) unit_zero2 inb_S16x2048_S16x2048_0_0 x0
  have e1 : View.ld x1 (Rect.unit ![0, 0] ![16, 2048] inb_S16x2048_S16x2048_0_0) = x1 :=
    View.ld_unit_zero (Val := Elt Ideal) unit_zero2 inb_S16x2048_S16x2048_0_0 x1
  have e2 : View.ld x2 (Rect.unit ![0, 0] ![16, 2048] inb_S16x2048_S16x2048_0_0) = x2 :=
    View.ld_unit_zero (Val := Elt Ideal) unit_zero2 inb_S16x2048_S16x2048_0_0 x2
  have e3 : View.ld x3 (Rect.unit ![0, 0] ![16, 2048] inb_S16x2048_S16x2048_0_0) = x3 :=
    View.ld_unit_zero (Val := Elt Ideal) unit_zero2 inb_S16x2048_S16x2048_0_0 x3
  have e4 : View.ld x4 (Rect.unit ![0, 0] ![16, 3] inb_S16x3_S16x3_0_0) = x4 :=
    View.ld_unit_zero (Val := Elt Ideal) unit_zero2 inb_S16x3_S16x3_0_0 x4
  have e5 : View.ld x5 (Rect.unit ![0, 0] ![16, 2] inb_S16x2_S16x2_0_0) = x5 :=
    View.ld_unit_zero (Val := Elt Ideal) unit_zero2 inb_S16x2_S16x2_0_0 x5
  simp only [e0, e1, e2, e3, e4, e5]
  unfold weights lp0 lp1 mats0
  simp only [like0, like1]
  obtain ⟨l0, h⟩ : ∃ v, v = like x0 (k0_pay5 x2 x5) := ⟨_, rfl⟩
  simp only [← h]; clear h
  obtain ⟨pc0, h⟩ : ∃ v, v = k0_pay5 x2 x5 := ⟨_, rfl⟩
  simp only [← h]; clear h
  obtain ⟨l1, h⟩ : ∃ v, v = like x0 (k0_pay8 (k0_pay6 x3 x5) k0_pay7) := ⟨_, rfl⟩
  simp only [← h]; clear h
  obtain ⟨pc1, h⟩ : ∃ v, v = k0_pay8 (k0_pay6 x3 x5) k0_pay7 := ⟨_, rfl⟩
  simp only [← h]; clear h
  obtain ⟨pL, h⟩ : ∃ v, v = k0_pay13 (k0_pay2 x4) := ⟨_, rfl⟩
  simp only [← h]; clear h
  obtain ⟨pF, h⟩ : ∃ v, v = k0_pay14 (k0_pay2 x4) := ⟨_, rfl⟩
  simp only [← h]; clear h
  obtain ⟨p, h⟩ : ∃ v, v = k0_pay16 (k0_pay12 (k0_pay2 x4)) := ⟨_, rfl⟩
  simp only [← h]; clear h
  obtain ⟨S, h⟩ : ∃ v, v = start l0 l1 pL (k0_pay15 pF) := ⟨_, rfl⟩
  simp only [part3 l0 l1 pL pF, ← h]; clear h
  unfold mats prob presum
  obtain ⟨T, h⟩ : ∃ v, v = step 2 (step 1 S) := ⟨_, rfl⟩
  simp only [part4 S, ← h]; clear h
  obtain ⟨N, h⟩ : ∃ v, v = prod (step 4 T) (shM 8 (step 4 T)) := ⟨_, rfl⟩
  obtain ⟨R, h'⟩ : ∃ v, v = step 16 (nrm N) := ⟨_, rfl⟩
  simp only [part5 T, ← h]; simp only [part6 N, ← h']
  rw [show step 16 (step 8 (step 4 T)) = R by rw [h', h]; rfl]
  clear h h' N
  obtain ⟨N, h⟩ : ∃ v, v = prod (step 32 R) (shM 64 (step 32 R)) := ⟨_, rfl⟩
  obtain ⟨U, h'⟩ : ∃ v, v = step 128 (nrm N) := ⟨_, rfl⟩
  simp only [part7 R, ← h]; simp only [part8 N, ← h']
  rw [show step 128 (step 64 (step 32 R)) = U by rw [h', h]; rfl]
  clear h h' N
  obtain ⟨W, h⟩ : ∃ v, v = step 512 (step 256 U) := ⟨_, rfl⟩
  simp only [part9 U, ← h]; clear h
  obtain ⟨a, h⟩ : ∃ v, v = al0 (step 1024 W) p := ⟨_, rfl⟩
  obtain ⟨b, h'⟩ : ∃ v, v = al1 (step 1024 W) p := ⟨_, rfl⟩
  simp only [part10 W pc0 pc1 p, ← h, ← h']; clear h h'
  simp only [part11 a b pc0 pc1 (mean a b pc0 pc1) x1]
  exact (part12 _ _ (logClip (mean a b pc0 pc1))).2.1

set_option maxHeartbeats 4000000 in
/-- What the body stores in the second output. -/
theorem out_b (c : Dev nD) (t : Fin cfg0.N) (x0 : Vec Ideal S16x2048 .i32) (x1 : Vec Ideal S16x2048 .i32)
    (x2 x3 : Vec Ideal S16x2048 .f32) (x4 : Vec Ideal S16x3 .f32) (x5 : Vec Ideal S16x2 .f32) (g : PrngReg) :
    out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      x0 x1 x2 x3 x4 x5 g =
    lse (addf (lev (lp1 x0 x2 x3 x4 x5)) (weights x1 (lp0 x0 x2 x3 x4 x5) (lp1 x0 x2 x3 x4 x5))) := by
  unfold out0_A_7
  rw [View.read_writes_eq_canon _ _ _ (cover0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
      x0 x1 x2 x3 x4 x5 g)]
  unfold kernelRun0_A
  dsimp only
  sl_unfold_words
  simp only [View.readAt_eq_ld, (hs0_0 t).read_unread, (hs0_1 t).read_unread, (hs0_2 t).read_unread,
    (hs0_3 t).read_unread, (hs0_4 t).read_unread, (hs0_5 t).read_unread, fold_zero]
  rw [View.canon_unit_zero unit_zero2]
  have e0 : View.ld x0 (Rect.unit ![0, 0] ![16, 2048] inb_S16x2048_S16x2048_0_0) = x0 :=
    View.ld_unit_zero (Val := Elt Ideal) unit_zero2 inb_S16x2048_S16x2048_0_0 x0
  have e1 : View.ld x1 (Rect.unit ![0, 0] ![16, 2048] inb_S16x2048_S16x2048_0_0) = x1 :=
    View.ld_unit_zero (Val := Elt Ideal) unit_zero2 inb_S16x2048_S16x2048_0_0 x1
  have e2 : View.ld x2 (Rect.unit ![0, 0] ![16, 2048] inb_S16x2048_S16x2048_0_0) = x2 :=
    View.ld_unit_zero (Val := Elt Ideal) unit_zero2 inb_S16x2048_S16x2048_0_0 x2
  have e3 : View.ld x3 (Rect.unit ![0, 0] ![16, 2048] inb_S16x2048_S16x2048_0_0) = x3 :=
    View.ld_unit_zero (Val := Elt Ideal) unit_zero2 inb_S16x2048_S16x2048_0_0 x3
  have e4 : View.ld x4 (Rect.unit ![0, 0] ![16, 3] inb_S16x3_S16x3_0_0) = x4 :=
    View.ld_unit_zero (Val := Elt Ideal) unit_zero2 inb_S16x3_S16x3_0_0 x4
  have e5 : View.ld x5 (Rect.unit ![0, 0] ![16, 2] inb_S16x2_S16x2_0_0) = x5 :=
    View.ld_unit_zero (Val := Elt Ideal) unit_zero2 inb_S16x2_S16x2_0_0 x5
  simp only [e0, e1, e2, e3, e4, e5]
  unfold weights lp0 lp1 mats0
  simp only [like0, like1]
  obtain ⟨l0, h⟩ : ∃ v, v = like x0 (k0_pay5 x2 x5) := ⟨_, rfl⟩
  simp only [← h]; clear h
  obtain ⟨pc0, h⟩ : ∃ v, v = k0_pay5 x2 x5 := ⟨_, rfl⟩
  simp only [← h]; clear h
  obtain ⟨l1, h⟩ : ∃ v, v = like x0 (k0_pay8 (k0_pay6 x3 x5) k0_pay7) := ⟨_, rfl⟩
  simp only [← h]; clear h
  obtain ⟨pc1, h⟩ : ∃ v, v = k0_pay8 (k0_pay6 x3 x5) k0_pay7 := ⟨_, rfl⟩
  simp only [← h]; clear h
  obtain ⟨pL, h⟩ : ∃ v, v = k0_pay13 (k0_pay2 x4) := ⟨_, rfl⟩
  simp only [← h]; clear h
  obtain ⟨pF, h⟩ : ∃ v, v = k0_pay14 (k0_pay2 x4) := ⟨_, rfl⟩
  simp only [← h]; clear h
  obtain ⟨p, h⟩ : ∃ v, v = k0_pay16 (k0_pay12 (k0_pay2 x4)) := ⟨_, rfl⟩
  simp only [← h]; clear h
  obtain ⟨S, h⟩ : ∃ v, v = start l0 l1 pL (k0_pay15 pF) := ⟨_, rfl⟩
  simp only [part3 l0 l1 pL pF, ← h]; clear h
  unfold mats prob presum
  obtain ⟨T, h⟩ : ∃ v, v = step 2 (step 1 S) := ⟨_, rfl⟩
  simp only [part4 S, ← h]; clear h
  obtain ⟨N, h⟩ : ∃ v, v = prod (step 4 T) (shM 8 (step 4 T)) := ⟨_, rfl⟩
  obtain ⟨R, h'⟩ : ∃ v, v = step 16 (nrm N) := ⟨_, rfl⟩
  simp only [part5 T, ← h]; simp only [part6 N, ← h']
  rw [show step 16 (step 8 (step 4 T)) = R by rw [h', h]; rfl]
  clear h h' N
  obtain ⟨N, h⟩ : ∃ v, v = prod (step 32 R) (shM 64 (step 32 R)) := ⟨_, rfl⟩
  obtain ⟨U, h'⟩ : ∃ v, v = step 128 (nrm N) := ⟨_, rfl⟩
  simp only [part7 R, ← h]; simp only [part8 N, ← h']
  rw [show step 128 (step 64 (step 32 R)) = U by rw [h', h]; rfl]
  clear h h' N
  obtain ⟨W, h⟩ : ∃ v, v = step 512 (step 256 U) := ⟨_, rfl⟩
  simp only [part9 U, ← h]; clear h
  obtain ⟨a, h⟩ : ∃ v, v = al0 (step 1024 W) p := ⟨_, rfl⟩
  obtain ⟨b, h'⟩ : ∃ v, v = al1 (step 1024 W) p := ⟨_, rfl⟩
  simp only [part10 W pc0 pc1 p, ← h, ← h']; clear h h'
  simp only [part11 a b pc0 pc1 (mean a b pc0 pc1) x1]
  exact (part12 _ (logClip (mean a b pc0 pc1)) _).2.2

end Cert.KOut

end
-- ==== Proof.Filter.lean ====
/- The mathematics of the two-state filter over the reals: a product of 2 by 2 step matrices, computed one step at a
   time or by doubling windows with a normalisation in each round. -/
module

public import Mathlib.Data.Real.Basic
public import Mathlib.Data.Matrix.Mul
public import Mathlib.LinearAlgebra.Matrix.Notation
public import Mathlib.Tactic.FieldSimp
public import Mathlib.Tactic.Ring
public import Mathlib.Tactic.Positivity
public import Mathlib.Tactic.Linarith
public import Mathlib.Algebra.BigOperators.Fin

@[expose] public section

noncomputable section

namespace Cert.Filter

/-- A real 2 by 2 matrix. -/
abbrev Mat := Matrix (Fin 2) (Fin 2) ℝ

/-- The sum of all four entries. -/
def total (A : Mat) : ℝ := A 0 0 + A 0 1 + A 1 0 + A 1 1

/-- No entry is negative and each column has a positive sum. -/
structure Good (A : Mat) : Prop where
  nonneg : ∀ i j, 0 ≤ A i j
  col : ∀ j, 0 < A 0 j + A 1 j

theorem Good.total_pos {A : Mat} (h : Good A) : 0 < total A := by
  have h0 := h.col 0
  have h1 := h.col 1
  unfold total
  linarith

theorem good_one : Good 1 := by
  constructor
  · intro i j; fin_cases i <;> fin_cases j <;> simp
  · exact Fin.forall_fin_two.mpr ⟨by simp, by simp⟩

theorem Good.mul {A B : Mat} (hA : Good A) (hB : Good B) : Good (A * B) := by
  constructor
  · intro i j
    rw [Matrix.mul_apply, Fin.sum_univ_two]
    have := hA.nonneg i 0; have := hA.nonneg i 1; have := hB.nonneg 0 j; have := hB.nonneg 1 j
    positivity
  · intro j
    simp only [Matrix.mul_apply, Fin.sum_univ_two]
    have a0 := hA.col 0
    have a1 := hA.col 1
    have b := hB.col j
    have b0 := hB.nonneg 0 j
    have b1 := hB.nonneg 1 j
    have e : A 0 0 * B 0 j + A 0 1 * B 1 j + (A 1 0 * B 0 j + A 1 1 * B 1 j)
        = (A 0 0 + A 1 0) * B 0 j + (A 0 1 + A 1 1) * B 1 j := by ring
    rw [e]
    rcases b0.eq_or_lt with h | h
    · rw [← h] at b ⊢
      have : 0 < B 1 j := by linarith
      have := mul_pos a1 this
      linarith
    · have := mul_pos a0 h
      have := mul_nonneg a1.le b1
      linarith

theorem total_smul (c : ℝ) (A : Mat) : total (c • A) = c * total A := by
  simp only [total, Matrix.smul_apply, smul_eq_mul]; ring

/-- A sequence moved `d` places to the right, the identity filled in. -/
def sh (d : ℕ) (P : ℕ → Mat) (t : ℕ) : Mat := if t < d then 1 else P (t - d)

/-- A matrix divided by the sum of its entries. -/
def normed (A : Mat) : Mat := (1 / total A) • A

/-- One doubling round: each window times the one `d` places before it, normalised. -/
def rnd (d : ℕ) (P : ℕ → Mat) (t : ℕ) : Mat := normed (P t * sh d P t)

/-- The states of the doubling scan: `rounds M k` after `k` rounds, of widths 1, 2, 4, …. -/
def rounds (M : ℕ → Mat) : ℕ → ℕ → Mat
  | 0 => M
  | k + 1 => rnd (2 ^ k) (rounds M k)

/-- The product of the last `n` matrices up to time `t`, the latest on the left. -/
def win (M : ℕ → Mat) : ℕ → ℕ → Mat
  | 0, _ => 1
  | _ + 1, 0 => M 0
  | n + 1, t + 1 => M (t + 1) * win M n t

theorem win_succ (M : ℕ → Mat) (n t : ℕ) :
    win M (n + 1) t = M t * (if t = 0 then 1 else win M n (t - 1)) := by
  cases t <;> simp [win]

/-- A window of `n + m` is a window of `n` times the window of `m` that ends before it. -/
theorem win_add (M : ℕ → Mat) (n m : ℕ) : ∀ t, win M (n + m) t = win M n t * (if t < n then 1 else win M m (t - n)) := by
  induction n with
  | zero => intro t; simp [win]
  | succ n ih =>
    intro t
    rw [show n + 1 + m = (n + m) + 1 by ring, win_succ, win_succ, mul_assoc]
    congr 1
    rcases Nat.eq_zero_or_pos t with h | h
    · subst h; simp
    · rw [if_neg h.ne', if_neg h.ne', ih (t - 1)]
      have e : (t - 1 < n) = (t < n + 1) := by simp; omega
      have e' : t - 1 - n = t - (n + 1) := by omega
      simp only [e, e']

theorem good_win {M : ℕ → Mat} (h : ∀ t, Good (M t)) : ∀ n t, Good (win M n t) := by
  intro n
  induction n with
  | zero => intro t; exact good_one
  | succ n ih =>
    intro t
    rw [win_succ]
    refine (h t).mul ?_
    split
    · exact good_one
    · exact ih _

/-- After `k` rounds each state is a positive multiple of the window of `2 ^ k` matrices. -/
theorem rounds_eq {M : ℕ → Mat} (h : ∀ t, Good (M t)) : ∀ k t, ∃ c : ℝ, 0 < c ∧ rounds M k t = c • win M (2 ^ k) t := by
  intro k
  induction k with
  | zero =>
    intro t
    refine ⟨1, one_pos, ?_⟩
    rw [pow_zero, one_smul, show (1 : ℕ) = 0 + 1 from rfl, win_succ]
    simp [rounds, win]
  | succ k ih =>
    intro t
    obtain ⟨c, hc, e⟩ := ih t
    have key : ∃ c' : ℝ, 0 < c' ∧ rounds M k t * sh (2 ^ k) (rounds M k) t = c' • win M (2 ^ (k + 1)) t := by
      rw [pow_succ, mul_two, win_add, e]
      unfold sh
      split
      · exact ⟨c, hc, by rw [mul_one, mul_one]⟩
      · obtain ⟨c', hc', e'⟩ := ih (t - 2 ^ k)
        exact ⟨c * c', mul_pos hc hc', by rw [e', smul_mul_smul_comm]⟩
    obtain ⟨c', hc', e'⟩ := key
    have hp : 0 < total (c' • win M (2 ^ (k + 1)) t) := by
      rw [total_smul]; exact mul_pos hc' (good_win h _ _).total_pos
    refine ⟨1 / total (c' • win M (2 ^ (k + 1)) t) * c', by positivity, ?_⟩
    show normed _ = _
    rw [e', normed, smul_smul]

/-- In each round the entries that are normalised have a positive sum. -/
theorem round_total_pos {M : ℕ → Mat} (h : ∀ t, Good (M t)) (k t : ℕ) :
    0 < total (rounds M k t * sh (2 ^ k) (rounds M k) t) := by
  have g : ∀ t, Good (rounds M k t) := by
    intro t
    obtain ⟨c, hc, e⟩ := rounds_eq h k t
    have w := good_win h (2 ^ k) t
    rw [e]
    constructor
    · intro i j; have := w.nonneg i j; simp only [Matrix.smul_apply, smul_eq_mul]; positivity
    · intro j
      have := mul_pos hc (w.col j)
      simp only [Matrix.smul_apply, smul_eq_mul]; linarith
  refine ((g t).mul ?_).total_pos
  unfold sh
  split
  · exact good_one
  · exact g _

/-- The step matrices read one place late: the identity, then `S 0`, `S 1`, …. -/
def late (S : ℕ → Mat) : ℕ → Mat
  | 0 => 1
  | t + 1 => S t

theorem good_late {S : ℕ → Mat} (h : ∀ t, Good (S t)) : ∀ t, Good (late S t)
  | 0 => good_one
  | t + 1 => h t

/-- The product of the first `t` step matrices. -/
def full (S : ℕ → Mat) : ℕ → Mat
  | 0 => 1
  | t + 1 => S t * full S t

theorem win_late (S : ℕ → Mat) : ∀ t n, t < n → win (late S) n t = full S t
  | 0, n + 1, _ => by simp [win, late, full]
  | t + 1, n + 1, h => by
    rw [win, full, win_late S t n (by omega)]; rfl

theorem good_full {S : ℕ → Mat} (h : ∀ t, Good (S t)) : ∀ t, Good (full S t)
  | 0 => good_one
  | t + 1 => (h t).mul (good_full h t)

/-- A matrix applied to the belief (1 - p, p). -/
def app (A : Mat) (p : ℝ) (i : Fin 2) : ℝ := A i 0 * (1 - p) + A i 1 * p

theorem Good.app_nonneg {A : Mat} (h : Good A) {p : ℝ} (p0 : 0 ≤ p) (p1 : p ≤ 1) (i : Fin 2) : 0 ≤ app A p i := by
  have := h.nonneg i 0; have := h.nonneg i 1
  have : 0 ≤ 1 - p := by linarith
  unfold app; positivity

theorem Good.app_pos {A : Mat} (h : Good A) {p : ℝ} (p0 : 0 ≤ p) (p1 : p ≤ 1) : 0 < app A p 0 + app A p 1 := by
  have h0 := h.col 0
  have h1 := h.col 1
  have e : app A p 0 + app A p 1 = (A 0 0 + A 1 0) * (1 - p) + (A 0 1 + A 1 1) * p := by unfold app; ring
  rw [e]
  rcases p0.eq_or_lt with h | h
  · rw [← h]; linarith
  · have := mul_pos h1 h
    have := mul_nonneg h0.le (sub_nonneg.mpr p1)
    linarith

/-- The belief at time `t`: what the first `t` steps make of (1 - p, p), scaled to sum one. -/
def belief (S : ℕ → Mat) (p : ℝ) (t : ℕ) (i : Fin 2) : ℝ :=
  app (full S t) p i / (app (full S t) p 0 + app (full S t) p 1)

theorem belief_zero (S : ℕ → Mat) (p : ℝ) : belief S p 0 0 = 1 - p ∧ belief S p 0 1 = p := by
  simp [belief, app, full]

variable {S : ℕ → Mat} (h : ∀ t, Good (S t)) {p : ℝ} (p0 : 0 ≤ p) (p1 : p ≤ 1)

include h p0 p1

theorem belief_nonneg (t : ℕ) (i : Fin 2) : 0 ≤ belief S p t i :=
  div_nonneg ((good_full h t).app_nonneg p0 p1 i) ((good_full h t).app_pos p0 p1).le

theorem belief_sum (t : ℕ) : belief S p t 0 + belief S p t 1 = 1 := by
  have := ((good_full h t).app_pos p0 p1).ne'
  unfold belief
  rw [← add_div, div_self this]

/-- One sequential step: the step matrix applied to the belief, scaled to sum one. -/
theorem belief_succ (t : ℕ) (i : Fin 2) :
    belief S p (t + 1) i = (S t i 0 * belief S p t 0 + S t i 1 * belief S p t 1) /
      ((S t 0 0 * belief S p t 0 + S t 0 1 * belief S p t 1) + (S t 1 0 * belief S p t 0 + S t 1 1 * belief S p t 1)) := by
  have a := (good_full h t).app_pos p0 p1
  have b := (good_full h (t + 1)).app_pos p0 p1
  have e : ∀ i, app (full S (t + 1)) p i = S t i 0 * app (full S t) p 0 + S t i 1 * app (full S t) p 1 := by
    intro i
    simp only [app, full, Matrix.mul_apply, Fin.sum_univ_two]; ring
  rw [e 0, e 1] at b
  unfold belief
  rw [e, e 0, e 1]
  generalize app (full S t) p 0 = x at *
  generalize app (full S t) p 1 = y at *
  have a' := a.ne'
  have b' := b.ne'
  have k : ∀ u v : ℝ, u * (x / (x + y)) + v * (y / (x + y)) = (u * x + v * y) / (x + y) := by
    intro u v; ring
  rw [k, k, k, ← add_div, div_div_div_cancel_right₀ a']

/-- The scan's belief after enough rounds is the sequential one. -/
theorem rounds_belief (k t : ℕ) (ht : t < 2 ^ k) :
    0 < app (rounds (late S) k t) p 0 + app (rounds (late S) k t) p 1 ∧
    ∀ i, app (rounds (late S) k t) p i / (app (rounds (late S) k t) p 0 + app (rounds (late S) k t) p 1)
      = belief S p t i := by
  obtain ⟨c, hc, e⟩ := rounds_eq (good_late h) k t
  rw [win_late S t _ ht] at e
  have k : ∀ i, app (rounds (late S) k t) p i = c * app (full S t) p i := by
    intro i; rw [e]; simp only [app, Matrix.smul_apply, smul_eq_mul]; ring
  have a := (good_full h t).app_pos p0 p1
  constructor
  · rw [k 0, k 1, ← mul_add]; exact mul_pos hc a
  · intro i
    rw [k i, k 0, k 1, ← mul_add, mul_div_mul_left _ _ hc.ne']; rfl

end Cert.Filter

end
-- ==== Proof.Chain.lean ====
/- The kernel's scans over arrays of real numbers: the matrices after the eleven rounds, the beliefs, the
   probabilities and the prefix sums as real numbers. -/
module

public import proofs.«01_k».proof.Proof.KOut
public import proofs.«01_k».proof.Proof.Filter

@[expose] public section

set_option maxRecDepth 16384

noncomputable section

namespace Cert.Chain

open Idealize.ShloMosaic Cert.KernelIdeal Cert.KernelIdeal.Gen Cert.Scan Cert.KOut Cert.Filter

/-- The array holds the real numbers `f`. -/
def R (x : V) (f : Fin 80 → ℕ → ℝ) : Prop := ∀ (n : Fin 80) (t : Fin 2048), x (Idealize.ShloMosaic.ix2 n t) = ((f n t.val : ℝ) : EReal)

theorem one_val : (one : EReal) = ((1 : ℝ) : EReal) := by
  rw [EReal.coe_one]; exact Ideal.ofBits_one_f32

theorem zero_val : (zero : EReal) = ((0 : ℝ) : EReal) := by
  rw [EReal.coe_zero]; exact Ideal.ofBits_zero_f32

theorem div_real (x : ℝ) {y : ℝ} (h : y ≠ 0) : Ideal.div (x : EReal) (y : EReal) = ((x / y : ℝ) : EReal) := by
  rw [Ideal.div_coe h, ← EReal.coe_mul, mul_one_div]

theorem log_real {x : ℝ} (h : 0 < x) : Ideal.log (x : EReal) = ((Real.log x : ℝ) : EReal) := by
  rw [Ideal.log_coe, if_neg (by linarith)]

variable {x y : V} {f g : Fin 80 → ℕ → ℝ}

theorem R.congr (hx : R x f) (h : ∀ n t, t < 2048 → f n t = g n t) : R x g := by
  intro n t; rw [hx n t, h n t.val t.isLt]

theorem R.add (hx : R x f) (hy : R y g) : R (addf x y) (fun n t => f n t + g n t) := by
  intro n t
  show x _ + y _ = _
  rw [hx n t, hy n t, ← EReal.coe_add]

theorem R.mul (hx : R x f) (hy : R y g) : R (mulf x y) (fun n t => f n t * g n t) := by
  intro n t
  show x _ * y _ = _
  rw [hx n t, hy n t, ← EReal.coe_mul]

theorem R.one : R (broadcast S80x2048 one) (fun _ _ => 1) := fun _ _ => one_val

theorem R.comp (hx : R x f) : R (comp x) (fun n t => 1 - f n t) := by
  intro n t
  show Scan.one - x _ = _
  rw [hx n t, one_val, ← EReal.coe_sub]

theorem R.inv (hx : R x f) (h : ∀ n t, t < 2048 → f n t ≠ 0) :
    R (divf (broadcast S80x2048 Scan.one) x) (fun n t => 1 / f n t) := by
  intro n t
  show Ideal.div Scan.one (x _) = _
  rw [hx n t, one_val, div_real _ (h n t.val t.isLt)]

theorem R.shift (hx : R x f) (d : ℕ) {c : EReal} {r : ℝ} (hc : c = (r : EReal)) :
    R (shift d c x) (fun n t => if t < d then r else f n (t - d)) := by
  intro n t
  show (if t.val < d then c else x _) = (((if t.val < d then r else f n (t.val - d)) : ℝ) : EReal)
  by_cases h : t.val < d
  · rw [if_pos h, if_pos h, hc]
  · rw [if_neg h, if_neg h]
    exact hx n _

theorem R.select {c : IVec S80x2048 1} {q : Fin 80 → ℕ → Prop} [∀ n t, Decidable (q n t)]
    (hc : ∀ (n : Fin 80) (t : Fin 2048), c (Idealize.ShloMosaic.ix2 n t) = 1#1 ↔ q n t.val) (hx : R x f) (hy : R y g) :
    R (select c x y) (fun n t => if q n t then f n t else g n t) := by
  intro n t
  show (if c _ = 1#1 then x _ else y _) = (((if q n t.val then f n t.val else g n t.val) : ℝ) : EReal)
  by_cases h : q n t.val
  · rw [if_pos ((hc n t).mpr h), if_pos h, hx n t]
  · rw [if_neg (fun e => h ((hc n t).mp e)), if_neg h, hy n t]

/-- The four arrays hold the real matrices `f`. -/
structure IsM (m : M4) (f : Fin 80 → ℕ → Mat) : Prop where
  a : R m.a (fun n t => f n t 0 0)
  b : R m.b (fun n t => f n t 0 1)
  c : R m.c (fun n t => f n t 1 0)
  d : R m.d (fun n t => f n t 1 1)

variable {m k : M4} {A B : Fin 80 → ℕ → Mat}

theorem IsM.shM (h : IsM m A) (d : ℕ) : IsM (shM d m) (fun n => sh d (A n)) := by
  constructor
  · exact (h.a.shift d one_val).congr fun n t _ => by unfold sh; split <;> simp
  · exact (h.b.shift d zero_val).congr fun n t _ => by unfold sh; split <;> simp
  · exact (h.c.shift d zero_val).congr fun n t _ => by unfold sh; split <;> simp
  · exact (h.d.shift d one_val).congr fun n t _ => by unfold sh; split <;> simp

theorem IsM.prod (h : IsM m A) (h' : IsM k B) : IsM (prod m k) (fun n t => A n t * B n t) := by
  constructor
  · exact ((h.a.mul h'.a).add (h.b.mul h'.c)).congr fun n t _ => by rw [Matrix.mul_apply, Fin.sum_univ_two]
  · exact ((h.a.mul h'.b).add (h.b.mul h'.d)).congr fun n t _ => by rw [Matrix.mul_apply, Fin.sum_univ_two]
  · exact ((h.c.mul h'.a).add (h.d.mul h'.c)).congr fun n t _ => by rw [Matrix.mul_apply, Fin.sum_univ_two]
  · exact ((h.c.mul h'.b).add (h.d.mul h'.d)).congr fun n t _ => by rw [Matrix.mul_apply, Fin.sum_univ_two]

theorem IsM.nrm (h : IsM m A) (hp : ∀ n t, 0 < total (A n t)) : IsM (nrm m) (fun n t => normed (A n t)) := by
  have ht : R (tot m) (fun n t => total (A n t)) := ((h.a.add h.b).add h.c).add h.d
  have hi : R (Scan.inv m) (fun n t => 1 / total (A n t)) := ht.inv fun n t _ => (hp n t).ne'
  constructor
  · exact (h.a.mul hi).congr fun n t _ => by simp only [normed, Matrix.smul_apply, smul_eq_mul]; ring
  · exact (h.b.mul hi).congr fun n t _ => by simp only [normed, Matrix.smul_apply, smul_eq_mul]; ring
  · exact (h.c.mul hi).congr fun n t _ => by simp only [normed, Matrix.smul_apply, smul_eq_mul]; ring
  · exact (h.d.mul hi).congr fun n t _ => by simp only [normed, Matrix.smul_apply, smul_eq_mul]; ring

theorem IsM.round (M : Fin 80 → ℕ → Mat) (hM : ∀ n t, Good (M n t)) (j : ℕ) (h : IsM m (fun n => rounds (M n) j)) :
    IsM (step (2 ^ j) m) (fun n => rounds (M n) (j + 1)) :=
  (h.prod (h.shM (2 ^ j))).nrm fun n t => round_total_pos (hM n) j t

/-- The matrices after the eleven rounds. -/
theorem IsM.mats {M : Fin 80 → ℕ → Mat} (hM : ∀ n t, Good (M n t)) (h : IsM m M) :
    IsM (mats m) (fun n => rounds (M n) 11) := by
  have h0 : IsM m (fun n => rounds (M n) 0) := h
  exact (((((((((((h0.round M hM 0).round M hM 1).round M hM 2).round M hM 3).round M hM 4).round M hM 5).round M hM
    6).round M hM 7).round M hM 8).round M hM 9).round M hM 10)

/-- A column of one number per row. -/
def RC (x : FVec Ideal S80x1 .f32) (q : Fin 80 → ℝ) : Prop := ∀ n : Fin 80, x (Idealize.ShloMosaic.ix2 n 0) = ((q n : ℝ) : EReal)

theorem spread (x : FVec Ideal S80x1 .f32) (n : Fin 80) (t : Fin 2048) :
    broadcastTo S80x2048 x broadcasts_S80x1_S80x2048 (Idealize.ShloMosaic.ix2 n t) = x (Idealize.ShloMosaic.ix2 n 0) :=
  broadcastTo_apply _ _ _ _ fun a => by fin_cases a <;> rfl

theorem RC.col {x : FVec Ideal S80x1 .f32} {q : Fin 80 → ℝ} (h : RC x q) :
    R (broadcastTo S80x2048 x broadcasts_S80x1_S80x2048) (fun n _ => q n) := by
  intro n t; rw [spread, h n]

theorem RC.comp {x : FVec Ideal S80x1 .f32} {q : Fin 80 → ℝ} (h : RC x q) :
    RC (subf (broadcast S80x1 Scan.one) x) (fun n => 1 - q n) := by
  intro n
  show Scan.one - x _ = _
  rw [h n, one_val, ← EReal.coe_sub]

/-- The matrix of one time: the likelihoods of the observation, then the transition. -/
def stepMat (l0 l1 L F : ℝ) : Mat := !![(1 - L) * l0, F * l1; L * l0, (1 - F) * l1]

theorem good_stepMat {l0 l1 L F : ℝ} (a : 0 < l0) (b : 0 < l1) (hL : 0 ≤ L) (hL1 : L ≤ 1) (hF : 0 ≤ F) (hF1 : F ≤ 1) :
    Good (stepMat l0 l1 L F) := by
  have : 0 ≤ 1 - L := by linarith
  have : 0 ≤ 1 - F := by linarith
  constructor
  · intro i j
    fin_cases i <;> fin_cases j <;> simp [stepMat] <;> positivity
  · refine Fin.forall_fin_two.mpr ⟨?_, ?_⟩
    · simp [stepMat]; nlinarith
    · simp [stepMat]; nlinarith

theorem IsM.start {l0 l1 : V} {pL pF : FVec Ideal S80x1 .f32} {L F : Fin 80 → ℝ} (h0 : R l0 f) (h1 : R l1 g)
    (hL : RC pL L) (hF : RC pF F) :
    IsM (start l0 l1 pL pF) (fun n => late (fun t => stepMat (f n t) (g n t) (L n) (F n))) := by
  constructor
  · refine ((hL.comp.col.mul h0).shift 1 one_val).congr fun n t _ => ?_
    cases t <;> simp [late, stepMat]
  · refine ((hF.col.mul h1).shift 1 zero_val).congr fun n t _ => ?_
    cases t <;> simp [late, stepMat]
  · refine ((hL.col.mul h0).shift 1 zero_val).congr fun n t _ => ?_
    cases t <;> simp [late, stepMat]
  · refine ((hF.comp.col.mul h1).shift 1 one_val).congr fun n t _ => ?_
    cases t <;> simp [late, stepMat]

/-- The probability of a correct answer of the belief filter. -/
def prb (S : ℕ → Mat) (p : ℝ) (c0 c1 : ℕ → ℝ) (t : ℕ) : ℝ := belief S p t 0 * c0 t + belief S p t 1 * c1 t

/-- The mean of two arrays under the beliefs that the scanned matrices give. -/
theorem R.prob {S : Fin 80 → ℕ → Mat} (hS : ∀ n t, Good (S n t)) (hm : IsM m (fun n => late (S n)))
    {p : FVec Ideal S80x1 .f32} {q : Fin 80 → ℝ} (hp : RC p q) (q0 : ∀ n, 0 ≤ q n) (q1 : ∀ n, q n ≤ 1)
    (hx : R x f) (hy : R y g) :
    R (prob (KOut.mats m) p x y) (fun n t => prb (S n) (q n) (f n) (g n) t) := by
  have H := hm.mats fun n => good_late (hS n)
  have e0 : R (al0 (KOut.mats m) p) (fun n t => app (rounds (late (S n)) 11 t) (q n) 0) :=
    (H.a.mul hp.comp.col).add (H.b.mul hp.col)
  have e1 : R (al1 (KOut.mats m) p) (fun n t => app (rounds (late (S n)) 11 t) (q n) 1) :=
    (H.c.mul hp.comp.col).add (H.d.mul hp.col)
  have key := fun n t (ht : t < 2048) => rounds_belief (hS n) (q0 n) (q1 n) 11 t ht
  refine (((e0.mul hx).add (e1.mul hy)).mul ((e0.add e1).inv fun n t ht => (key n t ht).1.ne')).congr fun n t ht => ?_
  unfold prb
  rw [← (key n t ht).2 0, ← (key n t ht).2 1]
  ring

/-- The sums of the last `d` terms up to each time. -/
theorem acc_win {c : Fin 80 → ℕ → ℝ} {d : ℕ} (hx : R x fun n t => ∑ s ∈ Finset.Ico (t + 1 - d) (t + 1), c n s) :
    R (acc d x) fun n t => ∑ s ∈ Finset.Ico (t + 1 - (d + d)) (t + 1), c n s := by
  refine (hx.add (hx.shift d zero_val)).congr fun n t _ => ?_
  by_cases h : t < d
  · rw [if_pos h, add_zero]
    congr 2; omega
  · rw [if_neg h, add_comm, show t - d + 1 - d = t + 1 - (d + d) by omega, show t - d + 1 = t + 1 - d by omega]
    exact Finset.sum_Ico_consecutive _ (by omega) (by omega)

/-- The sums over the earlier times. -/
theorem R.presum (hx : R x f) : R (presum x) (fun n t => ∑ s ∈ Finset.range t, f n s) := by
  have h0 : R (Scan.shift 1 zero x) fun n t =>
      ∑ s ∈ Finset.Ico (t + 1 - 1) (t + 1), (fun n s => if s < 1 then 0 else f n (s - 1)) n s := by
    refine (hx.shift 1 zero_val).congr fun n t _ => ?_
    rw [show t + 1 - 1 = t by omega]
    simp
  have h := acc_win (acc_win (acc_win (acc_win (acc_win (acc_win (acc_win (acc_win (acc_win (acc_win (acc_win h0))))))))))
  refine R.congr (x := KOut.presum x) h fun n t ht => ?_
  have e : ∀ N, t < N → ∑ s ∈ Finset.Ico (t + 1 - N) (t + 1), (if s < 1 then 0 else f n (s - 1)) = ∑ s ∈ Finset.range t, f n s := by
    intro N hN
    rw [show t + 1 - N = 0 by omega, ← Finset.range_eq_Ico, Finset.sum_range_succ']
    simp
  exact e _ (by omega)

/-- The bounds of the probabilities. -/
theorem lo_val : (Scalar.ofBits .f32 0x358637BD#32 : Ideal .f32) = ((8796093 / 8796093022208 : ℝ) : EReal) := by
  simp [Scalar.ofBits, FloatOps.ofBits, Ideal.ofBits, Ideal.ieee, -EReal.coe_mul]; norm_num

theorem hi_val : (Scalar.ofBits .f32 0x3F7FFFEF#32 : Ideal .f32) = ((16777199 / 16777216 : ℝ) : EReal) := by
  simp [Scalar.ofBits, FloatOps.ofBits, Ideal.ofBits, Ideal.ieee, -EReal.coe_mul]; norm_num

/-- The logarithm of probabilities within the bounds. -/
theorem R.logClip (hx : R x f) (lo : ∀ n t, t < 2048 → 8796093 / 8796093022208 ≤ f n t)
    (hi : ∀ n t, t < 2048 → f n t ≤ 16777199 / 16777216) : R (logClip x) (fun n t => Real.log (f n t)) := by
  intro n t
  show Ideal.log (min (Scalar.ofBits .f32 0x3F7FFFEF#32 : Ideal .f32) (max (Scalar.ofBits .f32 0x358637BD#32 : Ideal .f32) (x _))) = _
  have a := lo n t.val t.isLt
  rw [hx n t, lo_val, hi_val, max_eq_right (by exact_mod_cast a), min_eq_right (by exact_mod_cast hi n t.val t.isLt)]
  exact log_real (lt_of_lt_of_le (by norm_num) a)

end Cert.Chain

end
-- ==== Proof.Level.lean ====
/- The sums over the five ability levels: the kernel's logarithm of a sum of exponentials, with and without the largest
   term taken out, over arrays of real numbers. -/
module

public import proofs.«01_k».proof.Proof.Chain

@[expose] public section

set_option maxRecDepth 16384

noncomputable section

namespace Cert.Level

open Idealize.ShloMosaic Cert.KernelIdeal Cert.KernelIdeal.Gen Cert.Scan Cert.KOut Cert.Chain

/-- The row of the chains' arrays that ability level `a` and row `b` have. -/
def row (a : Fin 5) (b : Fin 16) : Fin 80 := ⟨a.val * 16 + b.val, by omega⟩

/-- The array over ability levels, rows and times holds the real numbers `f`. -/
def R3 (x : FVec Ideal S5x16x2048 .f32) (f : Fin 5 → Fin 16 → ℕ → ℝ) : Prop :=
  ∀ (a : Fin 5) (b : Fin 16) (t : Fin 2048), x (ix3 a b t) = ((f a b t.val : ℝ) : EReal)

/-- The array over rows and times holds the real numbers `f`. -/
def R2 (x : FVec Ideal S16x2048 .f32) (f : Fin 16 → ℕ → ℝ) : Prop :=
  ∀ (b : Fin 16) (t : Fin 2048), x (ix2 b t) = ((f b t.val : ℝ) : EReal)

theorem lev_apply {α : Type} (x : S80x2048.Idx → α) (a : Fin 5) (b : Fin 16) (t : Fin 2048) :
    shapeCast S5x16x2048 x shapeCasts_S80x2048_S5x16x2048 (ix3 a b t) = x (ix2 (row a b) t) := by
  refine shapeCast_apply _ _ _ _ ?_
  rw [Shape.rowMajor_val_two, Shape.rowMajor_val_three]
  show (a.val * 16 + b.val) * 2048 + t.val = _
  simp [ix3]

theorem lev_back {α : Type} (x : S5x16x2048.Idx → α) (a : Fin 5) (b : Fin 16) (t : Fin 2048) :
    shapeCast S80x2048 x shapeCasts_S5x16x2048_S80x2048 (ix2 (row a b) t) = x (ix3 a b t) := by
  refine shapeCast_apply _ _ _ _ ?_
  rw [Shape.rowMajor_val_two, Shape.rowMajor_val_three]
  show _ = (a.val * 16 + b.val) * 2048 + t.val
  simp [ix3]

theorem five_apply {α : Type} (x : S16x2048.Idx → α) (a : Fin 5) (b : Fin 16) (t : Fin 2048) :
    broadcastTo S5x16x2048 (shapeCast S1x16x2048 x shapeCasts_S16x2048_S1x16x2048) broadcasts_S1x16x2048_S5x16x2048
      (ix3 a b t) = x (ix2 b t) := by
  refine (broadcastTo_apply _ _ _ (ix3 0 b t : S1x16x2048.Idx) fun c => by fin_cases c <;> rfl).trans ?_
  refine shapeCast_apply _ _ _ _ ?_
  rw [Shape.rowMajor_val_two, Shape.rowMajor_val_three]
  simp [ix3, ix2]

/-- The largest of finitely many real numbers is a real number. -/
theorem fold_max_real {ι : Type} [DecidableEq ι] (s : Finset ι) (hs : s.Nonempty) (f : ι → ℝ) :
    ∃ r : ℝ, s.fold max (⊥ : EReal) (fun i => (f i : EReal)) = (r : EReal) := by
  induction hs using Finset.Nonempty.cons_induction with
  | singleton a => exact ⟨f a, by simp⟩
  | cons a s h hs ih =>
    obtain ⟨r, hr⟩ := ih
    refine ⟨max (f a) r, ?_⟩
    rw [Finset.fold_cons, hr]
    exact (EReal.coe_strictMono.monotone.map_max).symm

theorem ninf_val : (FloatOps.ofBits .f32 0xFF800000#32 : Ideal .f32) = (⊥ : EReal) := by
  show Ideal.ofBits .f32 0xFF800000#32 = ⊥
  simp [Ideal.ofBits, Ideal.ieee]

/-- Taking any real number out of the logarithm of a sum of exponentials. -/
theorem log_sum_shift (f : Fin 5 → ℝ) (M : ℝ) :
    Real.log (∑ a, Real.exp (f a - M)) + M = Real.log (∑ a, Real.exp (f a)) := by
  have e : ∑ a, Real.exp (f a - M) = (∑ a, Real.exp (f a)) * Real.exp (-M) := by
    rw [Finset.sum_mul]
    exact Finset.sum_congr rfl fun a _ => by rw [sub_eq_add_neg, Real.exp_add]
  have pos : 0 < ∑ a, Real.exp (f a) := Finset.sum_pos (fun a _ => Real.exp_pos _) ⟨0, Finset.mem_univ _⟩
  rw [e, Real.log_mul pos.ne' (Real.exp_pos _).ne', Real.log_exp]
  ring

theorem sum_exp_pos (f : Fin 5 → ℝ) : 0 < ∑ a, Real.exp (f a) :=
  Finset.sum_pos (fun a _ => Real.exp_pos _) ⟨0, Finset.mem_univ _⟩

theorem coe_sum (f : Fin 5 → ℝ) : ∑ a, ((f a : ℝ) : EReal) = ((∑ a, f a : ℝ) : EReal) := by
  simp only [Fin.sum_univ_five, EReal.coe_add]

theorem lift_eq (b : Fin 16) (t : Fin 2048) (k : Fin 5) :
    (reduces_S5x16x2048_S16x2048).lift (ix2 b t) k = ix3 k b t := by
  funext c; fin_cases c <;> rfl

theorem R3.top {x : FVec Ideal S5x16x2048 .f32} {f : Fin 5 → Fin 16 → ℕ → ℝ} (hx : R3 x f) :
    ∃ M : Fin 16 → ℕ → ℝ, R2 (top x) M := by
  have h : ∀ (b : Fin 16) (t : Fin 2048), ∃ r : ℝ, Scan.top x (ix2 b t) = (r : EReal) := by
    intro b t
    obtain ⟨r, hr⟩ := fold_max_real (Finset.univ : Finset (Fin 5)) ⟨0, Finset.mem_univ _⟩ (fun a => f a b t.val)
    refine ⟨r, ?_⟩
    unfold Scan.top
    refine (Ideal.multiReduction_maximumf_single x _ _ _ _ _).trans ?_
    rw [ninf_val, ← hr]
    refine Finset.fold_congr fun k _ => ?_
    exact (congrArg x (lift_eq b t k)).trans (hx k b t)
  choose M hM using h
  exact ⟨fun b t => if ht : t < 2048 then M b ⟨t, ht⟩ else 0, fun b t => by
    show _ = (((if ht : t.val < 2048 then M b ⟨t.val, ht⟩ else 0) : ℝ) : EReal)
    rw [hM b t, dif_pos t.isLt]⟩

/-- The logarithm of the sum of the exponentials over the levels. -/
theorem R3.lse {x : FVec Ideal S5x16x2048 .f32} {f : Fin 5 → Fin 16 → ℕ → ℝ} (hx : R3 x f) :
    R2 (lse x) (fun b t => Real.log (∑ a, Real.exp (f a b t))) := by
  obtain ⟨M, hM⟩ := hx.top
  intro b t
  have e : ∀ k : Fin 5, exp (subf x (five (Scan.top x))) ((reduces_S5x16x2048_S16x2048).lift (ix2 b t) k)
      = ((Real.exp (f k b t.val - M b t.val) : ℝ) : EReal) := by
    intro k
    rw [lift_eq]
    show Ideal.exp (x (ix3 k b t) - five (Scan.top x) (ix3 k b t)) = _
    unfold five
    rw [five_apply, hx k b t, hM b t, ← EReal.coe_sub, Ideal.exp_coe]
  have e' : multiReduction .add [0] S16x2048 (exp (subf x (five (Scan.top x)))) 0x00000000#32
      reduces_S5x16x2048_S16x2048 (.inl rfl) rfl (ix2 b t) = ∑ k : Fin 5, ((Real.exp (f k b t.val - M b t.val) : ℝ) : EReal) :=
    (Ideal.multiReduction_add_single _ _ _ _ _ _).trans (Finset.sum_congr rfl fun k _ => e k)
  refine (congrArg₂ (fun u v : EReal => Ideal.log u + v) e' (hM b t)).trans ?_
  rw [coe_sum, log_real (sum_exp_pos _), ← EReal.coe_add, log_sum_shift]

theorem R3.add {x y : FVec Ideal S5x16x2048 .f32} {f g : Fin 5 → Fin 16 → ℕ → ℝ} (hx : R3 x f) (hy : R3 y g) :
    R3 (addf x y) (fun a b t => f a b t + g a b t) := by
  intro a b t
  show x _ + y _ = _
  rw [hx a b t, hy a b t, ← EReal.coe_add]

theorem lev_real {x : V} {f : Fin 80 → ℕ → ℝ} (hx : R x f) : R3 (lev x) (fun a b t => f (row a b) t) := by
  intro a b t
  unfold lev
  rw [lev_apply, hx]

/-- The logarithms of the normalised weights. -/
theorem logw_real {x : V} {f : Fin 80 → ℕ → ℝ} (hx : R x f) :
    R3 (logw x) (fun a b t => f (row a b) t - Real.log (∑ k, Real.exp (f (row k b) t))) := by
  intro a b t
  show lev x _ - five (lse (lev x)) _ = _
  unfold five
  rw [five_apply, lev_real hx a b t, (lev_real hx).lse b t, ← EReal.coe_sub]

/-- The result of one class from the logarithm of its probabilities and the sums of the earlier observed ones. -/
def mix (lp pre : Fin 5 → ℝ) : ℝ :=
  Real.log (∑ a, Real.exp (lp a + (pre a - Real.log (∑ k, Real.exp (pre k)))))

/-- What the body stores, over real logarithms. -/
theorem stored {x : V} {s : IVec S80x2048 1} {l0 l1 : V} {f g0 g1 : Fin 80 → ℕ → ℝ} {q : Fin 80 → ℕ → Prop}
    [∀ n t, Decidable (q n t)] (hx : R x f) (h0 : R l0 g0) (h1 : R l1 g1)
    (hc : ∀ (n : Fin 80) (t : Fin 2048), s (ix2 n t) = 1#1 ↔ q n t.val) :
    R2 (lse (addf (lev x) (logw (presum (select s l1 l0)))))
      (fun b t => mix (fun a => f (row a b) t)
        (fun a => ∑ s ∈ Finset.range t, if q (row a b) s then g1 (row a b) s else g0 (row a b) s)) :=
  ((lev_real hx).add (logw_real (R.presum (R.select hc h1 h0)))).lse

end Cert.Level

end
-- ==== Proof.Head.lean ====
/- The kernel's logistic functions: the probabilities of a correct answer in the two states, the rates of learning and
   forgetting and the initial belief, element by element. -/
module

public import proofs.«01_k».proof.Proof.Level

@[expose] public section

set_option maxRecDepth 16384

noncomputable section

namespace Cert.Head

open Idealize.ShloMosaic Cert.KernelIdeal Cert.KernelIdeal.Gen Cert.Scan Cert.KOut Cert.Chain Cert.Level

/-- The logistic function as both programs compute it. -/
def sig (y : EReal) : EReal := Ideal.div 1 (1 + Ideal.exp (0 - y))

/-- Its value as a real number. -/
def sg (y : EReal) : ℝ := (sig y).toReal

theorem sig_coe (y : ℝ) : sig (y : EReal) = ((1 / (1 + Real.exp (-y)) : ℝ) : EReal) := by
  unfold sig
  rw [zero_sub, ← EReal.coe_neg, Ideal.exp_coe, ← EReal.coe_one, ← EReal.coe_add, div_real _ (by positivity)]

theorem sg_coe (y : ℝ) : sg (y : EReal) = 1 / (1 + Real.exp (-y)) := by
  unfold sg; rw [sig_coe, EReal.toReal_coe]

theorem sig_top : sig ⊤ = ((1 : ℝ) : EReal) := by
  unfold sig
  rw [zero_sub, EReal.neg_top, Ideal.exp_bot, add_zero, ← EReal.coe_one, div_real _ one_ne_zero, div_one]

theorem sig_bot : sig ⊥ = ((0 : ℝ) : EReal) := by
  unfold sig
  rw [zero_sub, EReal.neg_bot, Ideal.exp_top, EReal.add_top_of_ne_bot (show (1 : EReal) ≠ ⊥ from EReal.coe_ne_bot 1)]
  simp [Ideal.div]

/-- The logistic function's values are real numbers. -/
theorem sig_real (y : EReal) : sig y = ((sg y : ℝ) : EReal) := by
  unfold sg
  induction y with
  | bot => rw [sig_bot, EReal.toReal_coe]
  | coe r => rw [sig_coe, EReal.toReal_coe]
  | top => rw [sig_top, EReal.toReal_coe]

theorem sg_nonneg (y : EReal) : 0 ≤ sg y := by
  induction y with
  | bot => unfold sg; rw [sig_bot, EReal.toReal_coe]
  | coe r => rw [sg_coe]; positivity
  | top => unfold sg; rw [sig_top, EReal.toReal_coe]; norm_num

theorem sg_le_one (y : EReal) : sg y ≤ 1 := by
  induction y with
  | bot => unfold sg; rw [sig_bot, EReal.toReal_coe]; norm_num
  | coe r => rw [sg_coe, div_le_one (by positivity)]; linarith [Real.exp_pos (-r)]
  | top => unfold sg; rw [sig_top, EReal.toReal_coe]

theorem exp_thirteen : Real.exp 13 < 450000 := by
  have h : Real.exp 1 < 2.72 := by
    refine lt_of_le_of_lt (Real.exp_bound' zero_le_one le_rfl (n := 6) (by norm_num)) ?_
    norm_num [Finset.sum_range_succ, Nat.factorial]
  have e : Real.exp 13 = Real.exp 1 ^ 13 := by rw [← Real.exp_nat_mul]; norm_num
  rw [e]
  calc Real.exp 1 ^ 13 < 2.72 ^ 13 := pow_lt_pow_left₀ h (Real.exp_pos 1).le (by norm_num)
    _ < 450000 := by norm_num

/-- Within thirteen of zero the logistic function stays away from 0 and 1. -/
theorem sg_bounds {y : ℝ} (h : |y| ≤ 13) : 1 / 450001 ≤ sg (y : EReal) ∧ sg (y : EReal) ≤ 450000 / 450001 := by
  obtain ⟨h1, h2⟩ := abs_le.mp h
  have a : Real.exp (-y) ≤ 450000 := (Real.exp_le_exp.mpr (by linarith)).trans exp_thirteen.le
  have b : 1 / 450000 ≤ Real.exp (-y) := by
    have c : Real.exp y ≤ 450000 := (Real.exp_le_exp.mpr h2).trans exp_thirteen.le
    rw [Real.exp_neg, ← one_div]
    exact one_div_le_one_div_of_le (Real.exp_pos y) c
  rw [sg_coe]
  constructor
  · exact one_div_le_one_div_of_le (by positivity) (by linarith)
  · rw [div_le_div_iff₀ (by positivity) (by norm_num)]
    linarith

/-- The value of an ability level. -/
def lvl (a : Fin 5) : EReal := (((a.val : ℝ) - 2 : ℝ) : EReal)

theorem two_val : Ideal.ofBits .f32 0x40000000#32 = ((2 : ℝ) : EReal) := by
  simp [Ideal.ofBits, Ideal.ieee, -EReal.coe_mul]; norm_num

theorem lvl_eq (a : Fin 5) : (FloatOps.sitofp .f32 (BitVec.ofNat 32 a.val) : Ideal .f32) - Ideal.ofBits .f32 0x40000000#32 = lvl a := by
  rw [two_val]
  show (((BitVec.ofNat 32 a.val).toInt : ℝ) : EReal) - _ = _
  rw [← EReal.coe_sub]
  unfold lvl
  fin_cases a <;> simp

theorem pay5_apply (x2 : Vec Ideal S16x2048 .f32) (x5 : Vec Ideal S16x2 .f32) (a : Fin 5) (b : Fin 16) (t : Fin 2048) :
    k0_pay5 (F := Ideal) x2 x5 (ix2 (row a b) t) = sig (lvl a + (x5 (ix2 b 0) + x2 (ix2 b t))) := by
  unfold k0_pay5
  refine (lev_back _ a b t).trans ?_
  unfold k0_pay3 k0_pay4
  pointwise
  rw [lvl_eq]
  rfl

theorem pay8_apply (x3 : Vec Ideal S16x2048 .f32) (x5 : Vec Ideal S16x2 .f32) (a : Fin 5) (b : Fin 16) (t : Fin 2048) :
    k0_pay8 (F := Ideal) (k0_pay6 x3 x5) k0_pay7 (ix2 (row a b) t) = sig ((x5 (ix2 b 1) + x3 (ix2 b t)) - lvl a) := by
  unfold k0_pay8
  refine (lev_back _ a b t).trans ?_
  unfold k0_pay6 k0_pay7 k0_pay3 k0_pay4
  pointwise
  rw [lvl_eq]
  rfl

theorem row_mod (a : Fin 5) (b : Fin 16) (h : (row a b).val % 16 < 16) : (⟨(row a b).val % 16, h⟩ : Fin 16) = b := by
  apply Fin.ext
  show (a.val * 16 + b.val) % 16 = b.val
  omega

theorem pay13_apply (x4 : Vec Ideal S16x3 .f32) (a : Fin 5) (b : Fin 16) :
    k0_pay13 (k0_pay2 (F := Ideal) x4) (ix2 (row a b) 0) = sig (x4 (ix2 b 0)) := by
  unfold k0_pay13 k0_pay2
  pointwise
  rw [row_mod]
  rfl

theorem pay15_apply (x4 : Vec Ideal S16x3 .f32) (a : Fin 5) (b : Fin 16) :
    k0_pay15 (k0_pay14 (k0_pay2 (F := Ideal) x4)) (ix2 (row a b) 0) = sig (x4 (ix2 b 1)) := by
  unfold k0_pay15 k0_pay14 k0_pay2
  pointwise
  rw [row_mod]
  rfl

theorem pay16_apply (x4 : Vec Ideal S16x3 .f32) (a : Fin 5) (b : Fin 16) :
    k0_pay16 (k0_pay12 (k0_pay2 (F := Ideal) x4)) (ix2 (row a b) 0) = sig (x4 (ix2 b 2)) := by
  unfold k0_pay16 k0_pay12 k0_pay2
  pointwise
  rw [row_mod]
  rfl

theorem spread_row (c : S16x2048.Idx → BitVec 1) (a : Fin 5) (b : Fin 16) (t : Fin 2048) :
    shapeCast S80x2048 (broadcastTo S5x16x2048 (shapeCast S1x16x2048 (shapeCast S1x16x2048 c
      shapeCasts_S16x2048_S1x16x2048) shapeCasts_S1x16x2048_S1x16x2048) broadcasts_S1x16x2048_S5x16x2048)
      shapeCasts_S5x16x2048_S80x2048 (ix2 (row a b) t) = c (ix2 b t) := by
  refine (lev_back _ a b t).trans ?_
  pointwise

theorem eq_one_iff (x : BitVec 32) : IntOp.cmpi .eq x 1#32 = 1#1 ↔ x = 1#32 := by
  show BitVec.ofBool (x == 1#32) = 1#1 ↔ _
  by_cases h : x = 1#32
  · simp [h]
  · rw [beq_eq_false_iff_ne.mpr h]
    simp [h]

theorem pay9_iff (x0 : Vec Ideal S16x2048 .i32) (a : Fin 5) (b : Fin 16) (t : Fin 2048) :
    k0_pay9 (F := Ideal) x0 (ix2 (row a b) t) = 1#1 ↔ x0 (ix2 b t) = 1#32 := by
  unfold k0_pay9
  rw [spread_row]
  exact eq_one_iff _

theorem isOne_iff (x1 : Vec Ideal S16x2048 .i32) (a : Fin 5) (b : Fin 16) (t : Fin 2048) :
    isOne x1 (ix2 (row a b) t) = 1#1 ↔ x1 (ix2 b t) = 1#32 := by
  unfold isOne
  rw [spread_row]
  exact eq_one_iff _

/-- The ability level and the row of a chain. -/
def lvlOf (n : Fin 80) : Fin 5 := ⟨n.val / 16, by omega⟩

@[inherit_doc lvlOf]
def rowOf (n : Fin 80) : Fin 16 := ⟨n.val % 16, by omega⟩

theorem row_of (n : Fin 80) : row (lvlOf n) (rowOf n) = n := by
  apply Fin.ext; show n.val / 16 * 16 + n.val % 16 = n.val; omega

theorem lvlOf_row (a : Fin 5) (b : Fin 16) : lvlOf (row a b) = a := by
  apply Fin.ext; show (a.val * 16 + b.val) / 16 = a.val; omega

theorem rowOf_row (a : Fin 5) (b : Fin 16) : rowOf (row a b) = b := by
  apply Fin.ext; show (a.val * 16 + b.val) % 16 = b.val; omega

end Cert.Head

end
-- ==== Proof.Spec.lean ====
/- The result as a function of real numbers: the belief filter, the probabilities it predicts, and their mean over the
   ability levels weighted by how well each level predicted the earlier targets; and that the kernel's body stores it. -/
module

public import proofs.«01_k».proof.Proof.Head

@[expose] public section

set_option maxRecDepth 16384

noncomputable section

open Classical

namespace Cert.Spec

open Idealize.ShloMosaic Cert.KernelIdeal Cert.KernelIdeal.Gen Cert.Scan Cert.KOut Cert.Chain Cert.Level Cert.Head Cert.Filter

/-- The numbers the filter runs on, of 80 chains (five ability levels by sixteen rows). -/
structure Data where
  /-- the logit of a correct answer in state 0 -/
  z0 : Fin 80 → ℕ → ℝ
  /-- the logit of a correct answer in state 1 -/
  z1 : Fin 80 → ℕ → ℝ
  /-- the logit of learning -/
  L : Fin 80 → EReal
  /-- the logit of forgetting -/
  F : Fin 80 → EReal
  /-- the logit of starting in state 1 -/
  p : Fin 80 → EReal
  /-- whether the answer was correct -/
  corr : Fin 80 → ℕ → Prop
  /-- whether the target is 1 -/
  tgt : Fin 80 → ℕ → Prop

variable (D : Data)

/-- The logits are within thirteen of zero. -/
structure Within : Prop where
  z0 : ∀ n t, |D.z0 n t| ≤ 13
  z1 : ∀ n t, |D.z1 n t| ≤ 13

/-- The probability of a correct answer in state 0. -/
def c0 (n : Fin 80) (t : ℕ) : ℝ := sg (D.z0 n t : EReal)

/-- The probability of a correct answer in state 1. -/
def c1 (n : Fin 80) (t : ℕ) : ℝ := sg (D.z1 n t : EReal)

/-- The likelihood of the answer in state 0. -/
def k0 (n : Fin 80) (t : ℕ) : ℝ := if D.corr n t then c0 D n t else 1 - c0 D n t

/-- The likelihood of the answer in state 1. -/
def k1 (n : Fin 80) (t : ℕ) : ℝ := if D.corr n t then c1 D n t else 1 - c1 D n t

/-- The matrix of one time. -/
def S (n : Fin 80) (t : ℕ) : Mat := stepMat (k0 D n t) (k1 D n t) (sg (D.L n)) (sg (D.F n))

/-- The predicted probability of a correct answer. -/
def P (n : Fin 80) (t : ℕ) : ℝ := prb (S D n) (sg (D.p n)) (c0 D n) (c1 D n) t

/-- The sum of the logarithms of the predicted probabilities of the earlier targets. -/
def pre (n : Fin 80) (t : ℕ) : ℝ :=
  ∑ s ∈ Finset.range t, if D.tgt n s then Real.log (P D n s) else Real.log (1 - P D n s)

/-- The result for a wrong answer. -/
def out0 (b : Fin 16) (t : ℕ) : ℝ := mix (fun a => Real.log (1 - P D (row a b) t)) (fun a => pre D (row a b) t)

/-- The result for a correct answer. -/
def out1 (b : Fin 16) (t : ℕ) : ℝ := mix (fun a => Real.log (P D (row a b) t)) (fun a => pre D (row a b) t)

variable {D} (W : Within D)
include W

theorem c0_bounds (n : Fin 80) (t : ℕ) : 1 / 450001 ≤ c0 D n t ∧ c0 D n t ≤ 450000 / 450001 := sg_bounds (W.z0 n t)

theorem c1_bounds (n : Fin 80) (t : ℕ) : 1 / 450001 ≤ c1 D n t ∧ c1 D n t ≤ 450000 / 450001 := sg_bounds (W.z1 n t)

theorem k0_pos (n : Fin 80) (t : ℕ) : 0 < k0 D n t := by
  have h := c0_bounds W n t
  unfold k0; split <;> linarith

theorem k1_pos (n : Fin 80) (t : ℕ) : 0 < k1 D n t := by
  have h := c1_bounds W n t
  unfold k1; split <;> linarith

theorem good_S (n : Fin 80) (t : ℕ) : Good (S D n t) :=
  good_stepMat (k0_pos W n t) (k1_pos W n t) (sg_nonneg _) (sg_le_one _) (sg_nonneg _) (sg_le_one _)

theorem P_bounds (n : Fin 80) (t : ℕ) : 1 / 450001 ≤ P D n t ∧ P D n t ≤ 450000 / 450001 := by
  have h0 := c0_bounds W n t
  have h1 := c1_bounds W n t
  have b0 := belief_nonneg (good_S W n) (sg_nonneg (D.p n)) (sg_le_one (D.p n)) t 0
  have b1 := belief_nonneg (good_S W n) (sg_nonneg (D.p n)) (sg_le_one (D.p n)) t 1
  have bs := belief_sum (good_S W n) (sg_nonneg (D.p n)) (sg_le_one (D.p n)) t
  unfold P prb
  constructor <;> nlinarith

theorem P_comp (n : Fin 80) (t : ℕ) :
    prb (S D n) (sg (D.p n)) (fun t => 1 - c0 D n t) (fun t => 1 - c1 D n t) t = 1 - P D n t := by
  have bs := belief_sum (good_S W n) (sg_nonneg (D.p n)) (sg_le_one (D.p n)) t
  unfold P prb
  linear_combination bs

/-- The kernel's inputs are the data. -/
structure Feeds (D : Data) (x0 x1 : Vec Ideal S16x2048 .i32) (x2 x3 : Vec Ideal S16x2048 .f32) (x4 : Vec Ideal S16x3 .f32)
    (x5 : Vec Ideal S16x2 .f32) : Prop where
  z0 : ∀ (a : Fin 5) (b : Fin 16) (t : Fin 2048), lvl a + (x5 (ix2 b 0) + x2 (ix2 b t)) = (D.z0 (row a b) t.val : EReal)
  z1 : ∀ (a : Fin 5) (b : Fin 16) (t : Fin 2048), (x5 (ix2 b 1) + x3 (ix2 b t)) - lvl a = (D.z1 (row a b) t.val : EReal)
  L : ∀ (a : Fin 5) (b : Fin 16), x4 (ix2 b 0) = D.L (row a b)
  F : ∀ (a : Fin 5) (b : Fin 16), x4 (ix2 b 1) = D.F (row a b)
  p : ∀ (a : Fin 5) (b : Fin 16), x4 (ix2 b 2) = D.p (row a b)
  corr : ∀ (a : Fin 5) (b : Fin 16) (t : Fin 2048), x0 (ix2 b t) = 1#32 ↔ D.corr (row a b) t.val
  tgt : ∀ (a : Fin 5) (b : Fin 16) (t : Fin 2048), x1 (ix2 b t) = 1#32 ↔ D.tgt (row a b) t.val

variable {x0 x1 : Vec Ideal S16x2048 .i32} {x2 x3 : Vec Ideal S16x2048 .f32} {x4 : Vec Ideal S16x3 .f32}
  {x5 : Vec Ideal S16x2 .f32} (H : Feeds D x0 x1 x2 x3 x4 x5)

omit W in
theorem all_rows {p : Fin 80 → Prop} (h : ∀ a b, p (row a b)) (n : Fin 80) : p n := by
  rw [← row_of n]; exact h _ _

include H

omit W in
theorem R_c0 : R (k0_pay5 x2 x5) (c0 D) := by
  refine all_rows fun a b t => ?_
  rw [pay5_apply, H.z0 a b t, sig_real]; rfl

omit W in
theorem R_c1 : R (k0_pay8 (k0_pay6 x3 x5) k0_pay7) (c1 D) := by
  refine all_rows fun a b t => ?_
  rw [pay8_apply, H.z1 a b t, sig_real]; rfl

omit W in
theorem hcorr (n : Fin 80) : ∀ t : Fin 2048, k0_pay9 (F := Ideal) x0 (ix2 n t) = 1#1 ↔ D.corr n t.val := by
  refine all_rows (p := fun n => ∀ t : Fin 2048, k0_pay9 (F := Ideal) x0 (ix2 n t) = 1#1 ↔ D.corr n t.val) (fun a b t => ?_) n
  rw [pay9_iff]; exact H.corr a b t

omit W in
theorem htgt (n : Fin 80) : ∀ t : Fin 2048, isOne x1 (ix2 n t) = 1#1 ↔ D.tgt n t.val := by
  refine all_rows (p := fun n => ∀ t : Fin 2048, isOne x1 (ix2 n t) = 1#1 ↔ D.tgt n t.val) (fun a b t => ?_) n
  rw [isOne_iff]; exact H.tgt a b t

omit W in
theorem RC_L : RC (k0_pay13 (k0_pay2 x4)) (fun n => sg (D.L n)) := by
  refine all_rows fun a b => ?_
  rw [pay13_apply, H.L a b, sig_real]

omit W in
theorem RC_F : RC (k0_pay15 (k0_pay14 (k0_pay2 x4))) (fun n => sg (D.F n)) := by
  refine all_rows fun a b => ?_
  rw [pay15_apply, H.F a b, sig_real]

omit W in
theorem RC_p : RC (k0_pay16 (k0_pay12 (k0_pay2 x4))) (fun n => sg (D.p n)) := by
  refine all_rows fun a b => ?_
  rw [pay16_apply, H.p a b, sig_real]

omit W in
theorem mats_real : IsM (mats0 x0 x2 x3 x4 x5) (fun n => late (S D n)) :=
  IsM.start (R.select (hcorr H) (R_c0 H) (R_c0 H).comp) (R.select (hcorr H) (R_c1 H) (R_c1 H).comp) (RC_L H) (RC_F H)

theorem lp1_real : R (lp1 x0 x2 x3 x4 x5) (fun n t => Real.log (P D n t)) := by
  refine R.logClip (R.prob (good_S W) (mats_real H) (RC_p H) (fun n => sg_nonneg _) (fun n => sg_le_one _) (R_c0 H) (R_c1 H))
    (fun n t _ => ?_) (fun n t _ => ?_)
  · have := (P_bounds W n t).1; norm_num at this ⊢; linarith
  · have := (P_bounds W n t).2; norm_num at this ⊢; linarith

theorem lp0_real : R (lp0 x0 x2 x3 x4 x5) (fun n t => Real.log (1 - P D n t)) := by
  have h := (R.prob (good_S W) (mats_real H) (RC_p H) (fun n => sg_nonneg _) (fun n => sg_le_one _) (R_c0 H).comp
    (R_c1 H).comp).congr (g := fun n t => 1 - P D n t) fun n t _ => P_comp W n t
  refine R.logClip h (fun n t _ => ?_) (fun n t _ => ?_)
  · have := (P_bounds W n t).2; norm_num at this ⊢; linarith
  · have := (P_bounds W n t).1; norm_num at this ⊢; linarith

/-- What the body stores for wrong answers. -/
theorem stored0 : R2 (lse (addf (lev (lp0 x0 x2 x3 x4 x5)) (weights x1 (lp0 x0 x2 x3 x4 x5) (lp1 x0 x2 x3 x4 x5)))) (out0 D) := by
  have h := stored (q := D.tgt) (f := fun n t => Real.log (1 - P D n t)) (g0 := fun n t => Real.log (1 - P D n t))
    (g1 := fun n t => Real.log (P D n t)) (x := lp0 x0 x2 x3 x4 x5) (s := isOne x1) (l0 := lp0 x0 x2 x3 x4 x5) (l1 := lp1 x0 x2 x3 x4 x5) (lp0_real W H) (lp0_real W H) (lp1_real W H) (htgt H)
  intro b t
  exact h b t

/-- What the body stores for correct answers. -/
theorem stored1 : R2 (lse (addf (lev (lp1 x0 x2 x3 x4 x5)) (weights x1 (lp0 x0 x2 x3 x4 x5) (lp1 x0 x2 x3 x4 x5)))) (out1 D) := by
  have h := stored (q := D.tgt) (f := fun n t => Real.log (P D n t)) (g0 := fun n t => Real.log (1 - P D n t))
    (g1 := fun n t => Real.log (P D n t)) (x := lp1 x0 x2 x3 x4 x5) (s := isOne x1) (l0 := lp0 x0 x2 x3 x4 x5) (l1 := lp1 x0 x2 x3 x4 x5) (lp1_real W H) (lp0_real W H) (lp1_real W H) (htgt H)
  intro b t
  exact h b t

end Cert.Spec

end
-- ==== Proof.Take.lean ====
/- Rows of a table taken by a column of positions, read at an index: the position is read signed and clamped into the table. -/
module

public import proofs.«01_k».proof.Proof.Gen.KernelIdeal
public import proofs.«01_k».proof.Proof.Gen.ReferenceIdeal
public import proofs.«01_k».proof.Proof.Spec

@[expose] public section

set_option maxRecDepth 16384

noncomputable section

namespace Cert.Take

open Idealize.ShloMosaic

/-- The row of a table of `n` rows that a position names. -/
def spot (n : ℕ) (hn : 0 < n) (w : BitVec 32) : Fin n := ⟨min w.toInt.toNat (n - 1), by omega⟩

variable {α : Type}

/-- Rows of the problem table, in the kernel. -/
theorem take_problem (x : Cert.KernelIdeal.S100000x2.Idx → α) (i : IVec Cert.KernelIdeal.S32768x1 32) (p : Fin 32768) (q : Fin 2) :
    Host.gather Cert.KernelIdeal.gather_S100000x2_S32768x1_S32768x2_1_0_n_n_0_1_12 x i (ix2 p q) = x (ix2 (spot 100000 (by norm_num) (i (ix2 p 0))) q) := by
  unfold Host.gather
  have hs : ∀ c, GatherDims.siIdx Cert.KernelIdeal.gather_S100000x2_S32768x1_S32768x2_1_0_n_n_0_1_12 (ix2 p q) c = ix2 p 0 := by
    intro c
    funext b
    fin_cases b
    · refine Fin.ext ?_
      unfold GatherDims.siIdx
      rw [dif_neg (by decide)]
      unfold GatherDims.siCoord
      simp only [Fin.val_cast]
      have e : ∀ k : Fin 2, k = 0 → (ix2 p q k).val = p.val := fun k hk => by subst hk; rfl
      exact e _ (by decide)
    · exact Subsingleton.elim (α := Fin 1) _ _
  refine congrArg x (funext fun a => Fin.ext ?_)
  fin_cases a
  · show GatherDims.start _ (ix2 p q) i 0 + GatherDims.batchCoord _ (ix2 p q) 0 + GatherDims.offCoord _ (ix2 p q) 0 = _
    unfold GatherDims.start GatherDims.batchCoord GatherDims.offCoord
    rw [dif_pos (by decide), dif_neg (by decide), dif_neg (by decide), hs]
    rfl
  · show GatherDims.start _ (ix2 p q) i 1 + GatherDims.batchCoord _ (ix2 p q) 1 + GatherDims.offCoord _ (ix2 p q) 1 = _
    unfold GatherDims.start GatherDims.batchCoord GatherDims.offCoord
    rw [dif_neg (by decide), dif_neg (by decide), dif_pos (by decide)]
    have e : ∀ k : Fin 2, k = 1 → 0 + 0 + (ix2 p q k).val = q.val := fun k hk => by subst hk; simp
    exact e _ (by decide)

/-- Rows of the table of dynamics, in the kernel. -/
theorem take_dyn (x : Cert.KernelIdeal.S50000x3.Idx → α) (i : IVec Cert.KernelIdeal.S16x1 32) (p : Fin 16) (q : Fin 3) :
    Host.gather Cert.KernelIdeal.gather_S50000x3_S16x1_S16x3_1_0_n_n_0_1_13 x i (ix2 p q) = x (ix2 (spot 50000 (by norm_num) (i (ix2 p 0))) q) := by
  unfold Host.gather
  have hs : ∀ c, GatherDims.siIdx Cert.KernelIdeal.gather_S50000x3_S16x1_S16x3_1_0_n_n_0_1_13 (ix2 p q) c = ix2 p 0 := by
    intro c
    funext b
    fin_cases b
    · refine Fin.ext ?_
      unfold GatherDims.siIdx
      rw [dif_neg (by decide)]
      unfold GatherDims.siCoord
      simp only [Fin.val_cast]
      have e : ∀ k : Fin 2, k = 0 → (ix2 p q k).val = p.val := fun k hk => by subst hk; rfl
      exact e _ (by decide)
    · exact Subsingleton.elim (α := Fin 1) _ _
  refine congrArg x (funext fun a => Fin.ext ?_)
  fin_cases a
  · show GatherDims.start _ (ix2 p q) i 0 + GatherDims.batchCoord _ (ix2 p q) 0 + GatherDims.offCoord _ (ix2 p q) 0 = _
    unfold GatherDims.start GatherDims.batchCoord GatherDims.offCoord
    rw [dif_pos (by decide), dif_neg (by decide), dif_neg (by decide), hs]
    rfl
  · show GatherDims.start _ (ix2 p q) i 1 + GatherDims.batchCoord _ (ix2 p q) 1 + GatherDims.offCoord _ (ix2 p q) 1 = _
    unfold GatherDims.start GatherDims.batchCoord GatherDims.offCoord
    rw [dif_neg (by decide), dif_neg (by decide), dif_pos (by decide)]
    have e : ∀ k : Fin 2, k = 1 → 0 + 0 + (ix2 p q k).val = q.val := fun k hk => by subst hk; simp
    exact e _ (by decide)

/-- Rows of the component table, in the kernel. -/
theorem take_kc (x : Cert.KernelIdeal.S50000x2.Idx → α) (i : IVec Cert.KernelIdeal.S16x1 32) (p : Fin 16) (q : Fin 2) :
    Host.gather Cert.KernelIdeal.gather_S50000x2_S16x1_S16x2_1_0_n_n_0_1_12 x i (ix2 p q) = x (ix2 (spot 50000 (by norm_num) (i (ix2 p 0))) q) := by
  unfold Host.gather
  have hs : ∀ c, GatherDims.siIdx Cert.KernelIdeal.gather_S50000x2_S16x1_S16x2_1_0_n_n_0_1_12 (ix2 p q) c = ix2 p 0 := by
    intro c
    funext b
    fin_cases b
    · refine Fin.ext ?_
      unfold GatherDims.siIdx
      rw [dif_neg (by decide)]
      unfold GatherDims.siCoord
      simp only [Fin.val_cast]
      have e : ∀ k : Fin 2, k = 0 → (ix2 p q k).val = p.val := fun k hk => by subst hk; rfl
      exact e _ (by decide)
    · exact Subsingleton.elim (α := Fin 1) _ _
  refine congrArg x (funext fun a => Fin.ext ?_)
  fin_cases a
  · show GatherDims.start _ (ix2 p q) i 0 + GatherDims.batchCoord _ (ix2 p q) 0 + GatherDims.offCoord _ (ix2 p q) 0 = _
    unfold GatherDims.start GatherDims.batchCoord GatherDims.offCoord
    rw [dif_pos (by decide), dif_neg (by decide), dif_neg (by decide), hs]
    rfl
  · show GatherDims.start _ (ix2 p q) i 1 + GatherDims.batchCoord _ (ix2 p q) 1 + GatherDims.offCoord _ (ix2 p q) 1 = _
    unfold GatherDims.start GatherDims.batchCoord GatherDims.offCoord
    rw [dif_neg (by decide), dif_neg (by decide), dif_pos (by decide)]
    have e : ∀ k : Fin 2, k = 1 → 0 + 0 + (ix2 p q k).val = q.val := fun k hk => by subst hk; simp
    exact e _ (by decide)

/-- Rows of the table of dynamics, in the reference. -/
theorem take_dyn80 (x : Cert.ReferenceIdeal.S50000x3.Idx → α) (i : IVec Cert.ReferenceIdeal.S80x1 32) (p : Fin 80) (q : Fin 3) :
    Host.gather Cert.ReferenceIdeal.gather_S50000x3_S80x1_S80x3_1_0_n_n_0_1_13 x i (ix2 p q) = x (ix2 (spot 50000 (by norm_num) (i (ix2 p 0))) q) := by
  unfold Host.gather
  have hs : ∀ c, GatherDims.siIdx Cert.ReferenceIdeal.gather_S50000x3_S80x1_S80x3_1_0_n_n_0_1_13 (ix2 p q) c = ix2 p 0 := by
    intro c
    funext b
    fin_cases b
    · refine Fin.ext ?_
      unfold GatherDims.siIdx
      rw [dif_neg (by decide)]
      unfold GatherDims.siCoord
      simp only [Fin.val_cast]
      have e : ∀ k : Fin 2, k = 0 → (ix2 p q k).val = p.val := fun k hk => by subst hk; rfl
      exact e _ (by decide)
    · exact Subsingleton.elim (α := Fin 1) _ _
  refine congrArg x (funext fun a => Fin.ext ?_)
  fin_cases a
  · show GatherDims.start _ (ix2 p q) i 0 + GatherDims.batchCoord _ (ix2 p q) 0 + GatherDims.offCoord _ (ix2 p q) 0 = _
    unfold GatherDims.start GatherDims.batchCoord GatherDims.offCoord
    rw [dif_pos (by decide), dif_neg (by decide), dif_neg (by decide), hs]
    rfl
  · show GatherDims.start _ (ix2 p q) i 1 + GatherDims.batchCoord _ (ix2 p q) 1 + GatherDims.offCoord _ (ix2 p q) 1 = _
    unfold GatherDims.start GatherDims.batchCoord GatherDims.offCoord
    rw [dif_neg (by decide), dif_neg (by decide), dif_pos (by decide)]
    have e : ∀ k : Fin 2, k = 1 → 0 + 0 + (ix2 p q k).val = q.val := fun k hk => by subst hk; simp
    exact e _ (by decide)

/-- Rows of the component table, in the reference. -/
theorem take_kc80 (x : Cert.ReferenceIdeal.S50000x2.Idx → α) (i : IVec Cert.ReferenceIdeal.S80x1 32) (p : Fin 80) (q : Fin 2) :
    Host.gather Cert.ReferenceIdeal.gather_S50000x2_S80x1_S80x2_1_0_n_n_0_1_12 x i (ix2 p q) = x (ix2 (spot 50000 (by norm_num) (i (ix2 p 0))) q) := by
  unfold Host.gather
  have hs : ∀ c, GatherDims.siIdx Cert.ReferenceIdeal.gather_S50000x2_S80x1_S80x2_1_0_n_n_0_1_12 (ix2 p q) c = ix2 p 0 := by
    intro c
    funext b
    fin_cases b
    · refine Fin.ext ?_
      unfold GatherDims.siIdx
      rw [dif_neg (by decide)]
      unfold GatherDims.siCoord
      simp only [Fin.val_cast]
      have e : ∀ k : Fin 2, k = 0 → (ix2 p q k).val = p.val := fun k hk => by subst hk; rfl
      exact e _ (by decide)
    · exact Subsingleton.elim (α := Fin 1) _ _
  refine congrArg x (funext fun a => Fin.ext ?_)
  fin_cases a
  · show GatherDims.start _ (ix2 p q) i 0 + GatherDims.batchCoord _ (ix2 p q) 0 + GatherDims.offCoord _ (ix2 p q) 0 = _
    unfold GatherDims.start GatherDims.batchCoord GatherDims.offCoord
    rw [dif_pos (by decide), dif_neg (by decide), dif_neg (by decide), hs]
    rfl
  · show GatherDims.start _ (ix2 p q) i 1 + GatherDims.batchCoord _ (ix2 p q) 1 + GatherDims.offCoord _ (ix2 p q) 1 = _
    unfold GatherDims.start GatherDims.batchCoord GatherDims.offCoord
    rw [dif_neg (by decide), dif_neg (by decide), dif_pos (by decide)]
    have e : ∀ k : Fin 2, k = 1 → 0 + 0 + (ix2 p q k).val = q.val := fun k hk => by subst hk; simp
    exact e _ (by decide)

/-- Rows of the problem table, in the reference. -/
theorem take_problem80 (x : Cert.ReferenceIdeal.S100000x2.Idx → α) (i : IVec Cert.ReferenceIdeal.S80x2048x1 32) (p : Fin 80) (r : Fin 2048) (q : Fin 2) :
    Host.gather Cert.ReferenceIdeal.gather_S100000x2_S80x2048x1_S80x2048x2_2_0_n_n_0_2_12 x i (ix3 p r q) = x (ix2 (spot 100000 (by norm_num) (i (ix3 p r 0))) q) := by
  unfold Host.gather
  have hs : ∀ c, GatherDims.siIdx Cert.ReferenceIdeal.gather_S100000x2_S80x2048x1_S80x2048x2_2_0_n_n_0_2_12 (ix3 p r q) c = ix3 p r 0 := by
    intro c
    funext b
    fin_cases b
    · refine Fin.ext ?_
      unfold GatherDims.siIdx
      rw [dif_neg (by decide)]
      unfold GatherDims.siCoord
      simp only [Fin.val_cast]
      have e : ∀ k : Fin 3, k = 0 → (ix3 p r q k).val = p.val := fun k hk => by subst hk; rfl
      exact e _ (by decide)
    · refine Fin.ext ?_
      unfold GatherDims.siIdx
      rw [dif_neg (by decide)]
      unfold GatherDims.siCoord
      simp only [Fin.val_cast]
      have e : ∀ k : Fin 3, k = 1 → (ix3 p r q k).val = r.val := fun k hk => by subst hk; rfl
      exact e _ (by decide)
    · exact Subsingleton.elim (α := Fin 1) _ _
  refine congrArg x (funext fun a => Fin.ext ?_)
  fin_cases a
  · show GatherDims.start _ (ix3 p r q) i 0 + GatherDims.batchCoord _ (ix3 p r q) 0 + GatherDims.offCoord _ (ix3 p r q) 0 = _
    unfold GatherDims.start GatherDims.batchCoord GatherDims.offCoord
    rw [dif_pos (by decide), dif_neg (by decide), dif_neg (by decide), hs]
    rfl
  · show GatherDims.start _ (ix3 p r q) i 1 + GatherDims.batchCoord _ (ix3 p r q) 1 + GatherDims.offCoord _ (ix3 p r q) 1 = _
    unfold GatherDims.start GatherDims.batchCoord GatherDims.offCoord
    rw [dif_neg (by decide), dif_neg (by decide), dif_pos (by decide)]
    have e : ∀ k : Fin 3, k = 2 → 0 + 0 + (ix3 p r q k).val = q.val := fun k hk => by subst hk; simp
    exact e _ (by decide)

/-- The entry of the last axis each position names, in the reference. -/
theorem take_last (x : Cert.ReferenceIdeal.S16x5x2048x2.Idx → α) (i : IVec Cert.ReferenceIdeal.S16x5x2048x1x1 32) (p : Fin 16) (a : Fin 5) (r : Fin 2048)
    (z : Fin 1) :
    Host.gather Cert.ReferenceIdeal.gather_S16x5x2048x2_S16x5x2048x1x1_S16x5x2048x1_n_3_012_012_3_4_1111 x i (ix4 p a r z) = x (ix4 p a r (spot 2 (by norm_num) (i (ix5 p a r 0 0)))) := by
  unfold Host.gather
  have hs : ∀ c, GatherDims.siIdx Cert.ReferenceIdeal.gather_S16x5x2048x2_S16x5x2048x1x1_S16x5x2048x1_n_3_012_012_3_4_1111 (ix4 p a r z) c = ix5 p a r 0 0 := by
    intro c
    funext b
    fin_cases b
    · refine Fin.ext ?_
      unfold GatherDims.siIdx
      rw [dif_neg (by decide)]
      unfold GatherDims.siCoord
      simp only [Fin.val_cast]
      have e : ∀ k : Fin 4, k = 0 → (ix4 p a r z k).val = p.val := fun k hk => by subst hk; rfl
      exact e _ (by decide)
    · refine Fin.ext ?_
      unfold GatherDims.siIdx
      rw [dif_neg (by decide)]
      unfold GatherDims.siCoord
      simp only [Fin.val_cast]
      have e : ∀ k : Fin 4, k = 1 → (ix4 p a r z k).val = a.val := fun k hk => by subst hk; rfl
      exact e _ (by decide)
    · refine Fin.ext ?_
      unfold GatherDims.siIdx
      rw [dif_neg (by decide)]
      unfold GatherDims.siCoord
      simp only [Fin.val_cast]
      have e : ∀ k : Fin 4, k = 2 → (ix4 p a r z k).val = r.val := fun k hk => by subst hk; rfl
      exact e _ (by decide)
    · exact Subsingleton.elim (α := Fin 1) _ _
    · exact Subsingleton.elim (α := Fin 1) _ _
  refine congrArg x (funext fun b => Fin.ext ?_)
  fin_cases b
  · show GatherDims.start _ (ix4 p a r z) i 0 + GatherDims.batchCoord _ (ix4 p a r z) 0 + GatherDims.offCoord _ (ix4 p a r z) 0 = _
    unfold GatherDims.start GatherDims.batchCoord GatherDims.offCoord
    rw [dif_neg (by decide), dif_pos (by decide), dif_neg (by decide)]
    unfold GatherDims.siCoord
    simp only [Fin.val_cast]
    have e : ∀ k : Fin 4, k = 0 → 0 + (ix4 p a r z k).val + 0 = p.val := fun k hk => by subst hk; simp
    exact e _ (by decide)
  · show GatherDims.start _ (ix4 p a r z) i 1 + GatherDims.batchCoord _ (ix4 p a r z) 1 + GatherDims.offCoord _ (ix4 p a r z) 1 = _
    unfold GatherDims.start GatherDims.batchCoord GatherDims.offCoord
    rw [dif_neg (by decide), dif_pos (by decide), dif_neg (by decide)]
    unfold GatherDims.siCoord
    simp only [Fin.val_cast]
    have e : ∀ k : Fin 4, k = 1 → 0 + (ix4 p a r z k).val + 0 = a.val := fun k hk => by subst hk; simp
    exact e _ (by decide)
  · show GatherDims.start _ (ix4 p a r z) i 2 + GatherDims.batchCoord _ (ix4 p a r z) 2 + GatherDims.offCoord _ (ix4 p a r z) 2 = _
    unfold GatherDims.start GatherDims.batchCoord GatherDims.offCoord
    rw [dif_neg (by decide), dif_pos (by decide), dif_neg (by decide)]
    unfold GatherDims.siCoord
    simp only [Fin.val_cast]
    have e : ∀ k : Fin 4, k = 2 → 0 + (ix4 p a r z k).val + 0 = r.val := fun k hk => by subst hk; simp
    exact e _ (by decide)
  · show GatherDims.start _ (ix4 p a r z) i 3 + GatherDims.batchCoord _ (ix4 p a r z) 3 + GatherDims.offCoord _ (ix4 p a r z) 3 = _
    unfold GatherDims.start GatherDims.batchCoord GatherDims.offCoord
    rw [dif_pos (by decide), dif_neg (by decide), dif_neg (by decide), hs]
    rfl

end Cert.Take

end
-- ==== Proof.Inputs.lean ====
/- The eight arrays that both programs take, what the precondition says of them, and the numbers the filter runs on. -/
module

public import proofs.«01_k».proof.Proof.Take

@[expose] public section

set_option maxRecDepth 16384

noncomputable section

namespace Cert.Inputs

open Idealize.ShloMosaic Cert.Level Cert.Head Cert.Take

/-- The arguments. -/
structure Args where
  corr : IVec ⟨2, ![16, 2048]⟩ 32
  kc : IVec ⟨1, ![16]⟩ 32
  prob : IVec ⟨2, ![16, 2048]⟩ 32
  trial : IVec ⟨2, ![16, 2048]⟩ 32
  tgt : IVec ⟨2, ![16, 2048]⟩ 32
  dyn : (⟨2, ![50000, 3]⟩ : Shape).Idx → EReal
  op : (⟨2, ![100000, 2]⟩ : Shape).Idx → EReal
  okc : (⟨2, ![50000, 2]⟩ : Shape).Idx → EReal

/-- The result: for each row and time, the log probability of a wrong answer and of a correct one. -/
def result (D : Spec.Data) (j : (⟨3, ![16, 2048, 2]⟩ : Shape).Idx) : EReal :=
  if (j 2).val = 0 then ((Spec.out0 D (j 0) (j 1).val : ℝ) : EReal) else ((Spec.out1 D (j 0) (j 1).val : ℝ) : EReal)

/-- What the precondition says of the arguments. -/
structure Ok (A : Args) : Prop where
  trial : ∀ (b : Fin 16) (t : Fin 2048), A.trial (ix2 b t) = BitVec.ofNat 32 (b.val * 2048 + t.val)
  tgt : ∀ (b : Fin 16) (t : Fin 2048), A.tgt (ix2 b t) = 0#32 ∨ A.tgt (ix2 b t) = 1#32
  op : ∀ (r : Fin 100000) (q : Fin 2), ∃ x : ℝ, A.op (ix2 r q) = (x : EReal) ∧ |x| ≤ 3
  okc : ∀ (r : Fin 50000) (q : Fin 2), ∃ x : ℝ, A.okc (ix2 r q) = (x : EReal) ∧ |x| ≤ 8

/-- A position as an array of positions counts it: a negative one from the end. -/
def wrap (n w : BitVec 32) : BitVec 32 := Scalar.select (IntOp.cmpi .slt w 0#32) (IntOp.addi w n) w

variable (A : Args)

/-- The row of the component tables that row `b` names. -/
def kcRow (b : Fin 16) : Fin 50000 := spot 50000 (by norm_num) (wrap 50000#32 (A.kc (ix1 b)))

/-- The row of the problem table that row `b` names at time `t`. -/
def prRow (b : Fin 16) (t : Fin 2048) : Fin 100000 := spot 100000 (by norm_num) (wrap 100000#32 (A.prob (ix2 b t)))

/-- The time within the array, any other time going to the last. -/
def at_ (t : ℕ) : Fin 2048 := ⟨min t 2047, by omega⟩

theorem at_val (t : Fin 2048) : at_ t.val = t := by
  apply Fin.ext; show min t.val 2047 = t.val; omega

/-- The numbers the filter runs on. -/
def dat : Spec.Data where
  z0 n t := ((lvlOf n).val - 2 : ℝ) + ((A.okc (ix2 (kcRow A (rowOf n)) 0)).toReal + (A.op (ix2 (prRow A (rowOf n) (at_ t)) 0)).toReal)
  z1 n t := ((A.okc (ix2 (kcRow A (rowOf n)) 1)).toReal + (A.op (ix2 (prRow A (rowOf n) (at_ t)) 1)).toReal) - ((lvlOf n).val - 2 : ℝ)
  L n := A.dyn (ix2 (kcRow A (rowOf n)) 0)
  F n := A.dyn (ix2 (kcRow A (rowOf n)) 1)
  p n := A.dyn (ix2 (kcRow A (rowOf n)) 2)
  corr n t := A.corr (ix2 (rowOf n) (at_ t)) = 1#32
  tgt n t := A.tgt (ix2 (rowOf n) (at_ t)) = 1#32

variable {A} (h : Ok A)

include h

theorem okc_real (b : Fin 50000) (q : Fin 2) : A.okc (ix2 b q) = ((A.okc (ix2 b q)).toReal : EReal) := by
  obtain ⟨x, hx, -⟩ := h.okc b q
  rw [hx, EReal.toReal_coe]

theorem op_real (b : Fin 100000) (q : Fin 2) : A.op (ix2 b q) = ((A.op (ix2 b q)).toReal : EReal) := by
  obtain ⟨x, hx, -⟩ := h.op b q
  rw [hx, EReal.toReal_coe]

theorem okc_le (b : Fin 50000) (q : Fin 2) : |(A.okc (ix2 b q)).toReal| ≤ 8 := by
  obtain ⟨x, hx, hl⟩ := h.okc b q
  rwa [hx, EReal.toReal_coe]

theorem op_le (b : Fin 100000) (q : Fin 2) : |(A.op (ix2 b q)).toReal| ≤ 3 := by
  obtain ⟨x, hx, hl⟩ := h.op b q
  rwa [hx, EReal.toReal_coe]

omit h in
theorem lvl_le (a : Fin 5) : |(a.val - 2 : ℝ)| ≤ 2 := by
  have h : (a.val : ℝ) ≤ 4 := by exact_mod_cast Nat.le_of_lt_succ a.isLt
  have h0 : (0 : ℝ) ≤ a.val := Nat.cast_nonneg _
  rw [abs_le]; constructor <;> linarith

theorem within : Spec.Within (dat A) where
  z0 n t := by
    have h1 := abs_le.1 (lvl_le (lvlOf n))
    have h2 := abs_le.1 (okc_le h (kcRow A (rowOf n)) 0)
    have h3 := abs_le.1 (op_le h (prRow A (rowOf n) (at_ t)) 0)
    show |((lvlOf n).val - 2 : ℝ) + _| ≤ 13
    rw [abs_le]; constructor <;> linarith
  z1 n t := by
    have h1 := abs_le.1 (lvl_le (lvlOf n))
    have h2 := abs_le.1 (okc_le h (kcRow A (rowOf n)) 1)
    have h3 := abs_le.1 (op_le h (prRow A (rowOf n) (at_ t)) 1)
    show |_ - ((lvlOf n).val - 2 : ℝ)| ≤ 13
    rw [abs_le]; constructor <;> linarith

/-- The logit of state 0, from the tables' entries. -/
theorem z0_eq (n : Fin 80) (t : Fin 2048) :
    lvl (lvlOf n) + (A.okc (ix2 (kcRow A (rowOf n)) 0) + A.op (ix2 (prRow A (rowOf n) t) 0)) = ((dat A).z0 n t.val : EReal) := by
  rw [okc_real h, op_real h]
  show _ = ((((lvlOf n).val - 2 : ℝ) + (_ + (A.op (ix2 (prRow A (rowOf n) (at_ t.val)) 0)).toReal) : ℝ) : EReal)
  rw [at_val]; unfold lvl; push_cast; rfl

/-- The logit of state 1, from the tables' entries. -/
theorem z1_eq (n : Fin 80) (t : Fin 2048) :
    (A.okc (ix2 (kcRow A (rowOf n)) 1) + A.op (ix2 (prRow A (rowOf n) t) 1)) - lvl (lvlOf n) = ((dat A).z1 n t.val : EReal) := by
  rw [okc_real h, op_real h]
  show _ = (((_ + (A.op (ix2 (prRow A (rowOf n) (at_ t.val)) 1)).toReal) - ((lvlOf n).val - 2 : ℝ) : ℝ) : EReal)
  rw [at_val]; unfold lvl; push_cast; rfl

end Cert.Inputs

end
-- ==== Proof.KHost.lean ====
/- What the kernel's body reads: the answers, the targets and the rows of the tables. -/
module

public import proofs.«01_k».proof.Proof.Inputs
public import Idealize.ShloMosaic.Lib.StableHlo.ReadAt

@[expose] public section

set_option maxRecDepth 16384

noncomputable section

namespace Cert.KHost

open Idealize.ShloMosaic Idealize.SL.Sem Cert.KernelIdeal Cert.KernelIdeal.Gen Cert.Level Cert.Head Cert.Take Cert.Inputs
open Idealize.ShloMosaic.TcCoe

variable (m : (ℓ : Loc nD τ sig) → Buf (Elt Ideal) ℓ) (c : Dev nD)

/-- The kernel's arguments. -/
def args : Args where
  corr := m ((c : Thread nD τ).loc main_arg0)
  kc := m ((c : Thread nD τ).loc main_arg1)
  prob := m ((c : Thread nD τ).loc main_arg2)
  trial := m ((c : Thread nD τ).loc main_arg3)
  tgt := m ((c : Thread nD τ).loc main_arg4)
  dyn := m ((c : Thread nD τ).loc main_arg5)
  op := m ((c : Thread nD τ).loc main_arg6)
  okc := m ((c : Thread nD τ).loc main_arg7)

theorem read_dyn (b : Fin 16) (q : Fin 3) : V m c main_v20 (ix2 b q) = (args m c).dyn (ix2 (kcRow (args m c) b) q) := by
  show StableHlo.after (List.flatten [hostOps0]) _ (Proc.devRef .tc main_v20) (ix2 b q) = _
  after_reads_simp
  refine (take_dyn _ _ b q).trans ?_
  pointwise
  rfl

theorem read_okc (b : Fin 16) (q : Fin 2) : V m c main_v27 (ix2 b q) = (args m c).okc (ix2 (kcRow (args m c) b) q) := by
  show StableHlo.after (List.flatten [hostOps0]) _ (Proc.devRef .tc main_v27) (ix2 b q) = _
  after_reads_simp
  refine (take_kc _ _ b q).trans ?_
  pointwise
  rfl

theorem split (b : Fin 16) (t : Fin 2048) (h1 : (b.val * 2048 + t.val) / 2048 < 16) (h2 : (b.val * 2048 + t.val) % 2048 < 2048) :
    ix2 (⟨(b.val * 2048 + t.val) / 2048, h1⟩ : Fin 16) (⟨(b.val * 2048 + t.val) % 2048, h2⟩ : Fin 2048) = ix2 b t := by
  have e1 : (⟨(b.val * 2048 + t.val) / 2048, h1⟩ : Fin 16) = b := Fin.ext (by show (b.val * 2048 + t.val) / 2048 = b.val; omega)
  have e2 : (⟨(b.val * 2048 + t.val) % 2048, h2⟩ : Fin 2048) = t := Fin.ext (by show (b.val * 2048 + t.val) % 2048 = t.val; omega)
  rw [e1, e2]

theorem read_op0 (b : Fin 16) (t : Fin 2048) : V m c main_v10 (ix2 b t) = (args m c).op (ix2 (prRow (args m c) b t) 0) := by
  show StableHlo.after (List.flatten [hostOps0]) _ (Proc.devRef .tc main_v10) (ix2 b t) = _
  after_reads_simp
  pointwise
  refine (take_problem _ _ _ 0).trans ?_
  pointwise
  simp only [split]
  rfl

theorem read_op1 (b : Fin 16) (t : Fin 2048) : V m c main_v13 (ix2 b t) = (args m c).op (ix2 (prRow (args m c) b t) 1) := by
  show StableHlo.after (List.flatten [hostOps0]) _ (Proc.devRef .tc main_v13) (ix2 b t) = _
  after_reads_simp
  pointwise
  refine (take_problem _ _ _ 1).trans ?_
  pointwise
  simp only [split]
  rfl

/-- The one grid point. -/
def t₀ : Fin cfg0.N := ⟨0, by decide⟩

/-- The body's inputs are the data. -/
theorem feeds (h : Ok (args m c)) : Spec.Feeds (dat (args m c)) (V m c main_arg0) (V m c main_arg4) (V m c main_v10) (V m c main_v13)
    (V m c main_v20) (V m c main_v27) where
  z0 a b t := by
    rw [read_okc, read_op0, ← z0_eq h, lvlOf_row, rowOf_row]
  z1 a b t := by
    rw [read_okc, read_op1, ← z1_eq h, lvlOf_row, rowOf_row]
  L a b := by
    rw [read_dyn]; show _ = (args m c).dyn (ix2 (kcRow (args m c) (rowOf (row a b))) 0); rw [rowOf_row]
  F a b := by
    rw [read_dyn]; show _ = (args m c).dyn (ix2 (kcRow (args m c) (rowOf (row a b))) 1); rw [rowOf_row]
  p a b := by
    rw [read_dyn]; show _ = (args m c).dyn (ix2 (kcRow (args m c) (rowOf (row a b))) 2); rw [rowOf_row]
  corr a b t := by
    rw [V_main_arg0]; show _ ↔ (args m c).corr (ix2 (rowOf (row a b)) (at_ t.val)) = 1#32; rw [rowOf_row, at_val]; rfl
  tgt a b t := by
    rw [V_main_arg4]; show _ ↔ (args m c).tgt (ix2 (rowOf (row a b)) (at_ t.val)) = 1#32; rw [rowOf_row, at_val]; rfl

theorem block0 : iblk m c 0 t₀ = V m c main_arg0 := by
  have hz : (fun a => (win0_0.index t₀) a * main_arg0.ty.shape.size a) = fun _ => 0 := funext fun a => by fin_cases a <;> decide
  exact Memref.read_access_unit_zero (Elt Ideal) main_arg0 hz (fun a => by fin_cases a <;> decide) _

theorem block1 : iblk m c 1 t₀ = V m c main_arg4 := by
  have hz : (fun a => (win0_1.index t₀) a * main_arg4.ty.shape.size a) = fun _ => 0 := funext fun a => by fin_cases a <;> decide
  exact Memref.read_access_unit_zero (Elt Ideal) main_arg4 hz (fun a => by fin_cases a <;> decide) _

theorem block2 : iblk m c 2 t₀ = V m c main_v10 := by
  have hz : (fun a => (win0_2.index t₀) a * main_v10.ty.shape.size a) = fun _ => 0 := funext fun a => by fin_cases a <;> decide
  exact Memref.read_access_unit_zero (Elt Ideal) main_v10 hz (fun a => by fin_cases a <;> decide) _

theorem block3 : iblk m c 3 t₀ = V m c main_v13 := by
  have hz : (fun a => (win0_3.index t₀) a * main_v13.ty.shape.size a) = fun _ => 0 := funext fun a => by fin_cases a <;> decide
  exact Memref.read_access_unit_zero (Elt Ideal) main_v13 hz (fun a => by fin_cases a <;> decide) _

theorem block4 : iblk m c 4 t₀ = V m c main_v20 := by
  have hz : (fun a => (win0_4.index t₀) a * main_v20.ty.shape.size a) = fun _ => 0 := funext fun a => by fin_cases a <;> decide
  exact Memref.read_access_unit_zero (Elt Ideal) main_v20 hz (fun a => by fin_cases a <;> decide) _

theorem block5 : iblk m c 5 t₀ = V m c main_v27 := by
  have hz : (fun a => (win0_5.index t₀) a * main_v27.ty.shape.size a) = fun _ => 0 := funext fun a => by fin_cases a <;> decide
  exact Memref.read_access_unit_zero (Elt Ideal) main_v27 hz (fun a => by fin_cases a <;> decide) _

/-- The first output array after the run. -/
theorem array6 : (dats m 0 c).arrAt 6 cfg0.N = (outsAt0 m c t₀).1 := by
  have ho : ((cfg0.win 6).blk t₀).view.read (Elt Ideal) ((dats m 0 c).arrAt 6 cfg0.N) = (dats m 0 c).flushed 6 t₀ := by
    rw [show cfg0.N = t₀.val + 1 from rfl, (dats m 0 c).arrAt_succ 6 t₀,
      show (cfg0.win 6).flush t₀ = true from by decide, if_pos rfl]
    exact View.read_write_univ _ _
  have hz : (fun a => (win0_6.index t₀) a * main_v28_0.ty.shape.size a) = fun _ => 0 := funext fun a => by fin_cases a <;> decide
  rw [(Memref.read_access_unit_zero (Elt Ideal) main_v28_0 hz (fun a => by fin_cases a <;> decide) ((dats m 0 c).arrAt 6 cfg0.N) :)] at ho
  rw [ho]
  show (cfg0.win 6).cut _ ((dats m 0 c).after 6 t₀) = _
  rw [after0_6]
  rfl

/-- The second output array after the run. -/
theorem array7 : (dats m 0 c).arrAt 7 cfg0.N = (outsAt0 m c t₀).2 := by
  have ho : ((cfg0.win 7).blk t₀).view.read (Elt Ideal) ((dats m 0 c).arrAt 7 cfg0.N) = (dats m 0 c).flushed 7 t₀ := by
    rw [show cfg0.N = t₀.val + 1 from rfl, (dats m 0 c).arrAt_succ 7 t₀,
      show (cfg0.win 7).flush t₀ = true from by decide, if_pos rfl]
    exact View.read_write_univ _ _
  have hz : (fun a => (win0_7.index t₀) a * main_v28_1.ty.shape.size a) = fun _ => 0 := funext fun a => by fin_cases a <;> decide
  rw [(Memref.read_access_unit_zero (Elt Ideal) main_v28_1 hz (fun a => by fin_cases a <;> decide) ((dats m 0 c).arrAt 7 cfg0.N) :)] at ho
  rw [ho]
  show (cfg0.win 7).cut _ ((dats m 0 c).after 7 t₀) = _
  rw [after0_7]
  rfl

variable (h : Ok (args m c))
include h

theorem array6_real : R2 ((dats m 0 c).arrAt 6 cfg0.N) (Spec.out0 (dat (args m c))) := by
  rw [array6]
  unfold outsAt0
  dsimp only
  rw [KOut.out_a, block0, block1, block2, block3, block4, block5]
  exact Spec.stored0 (within h) (feeds m c h)

theorem array7_real : R2 ((dats m 0 c).arrAt 7 cfg0.N) (Spec.out1 (dat (args m c))) := by
  rw [array7]
  unfold outsAt0
  dsimp only
  rw [KOut.out_b, block0, block1, block2, block3, block4, block5]
  exact Spec.stored1 (within h) (feeds m c h)

omit h in
theorem arr_inj : Function.Injective (Pipeline.arrRef spec0) := by decide

omit h in
/-- The result, from the two output arrays. -/
theorem tail_eq (b : Fin 16) (t : Fin 2048) (q : Fin 2) :
    Pipeline.afterTail₀ cfgs (dats m) 0 (V0 m) [hostOps1] c main_v31 (ix3 b t q)
      = if q = 0 then (dats m 0 c).arrAt 6 cfg0.N (ix2 b t) else (dats m 0 c).arrAt 7 cfg0.N (ix2 b t) := by
  have e6 : Pipeline.withArrays spec0 c (V0 m c) (fun w => (dats m 0 c).arrAt w cfg0.N) (Proc.devRef .tc main_v28_0) = (dats m 0 c).arrAt 6 cfg0.N :=
    Pipeline.withArrays_arr spec0 arr_inj c (V0 m c) _ 6
  have e7 : Pipeline.withArrays spec0 c (V0 m c) (fun w => (dats m 0 c).arrAt w cfg0.N) (Proc.devRef .tc main_v28_1) = (dats m 0 c).arrAt 7 cfg0.N :=
    Pipeline.withArrays_arr spec0 arr_inj c (V0 m c) _ 7
  rw [← e6, ← e7]
  unfold Pipeline.afterTail₀
  show StableHlo.after (List.flatten [hostOps1]) _ (Proc.devRef .tc main_v31) (ix3 b t q) = _
  after_reads_simp
  fin_cases q
  · pointwise
  · pointwise

/-- The result as a function of real numbers. -/
theorem tail_real : Pipeline.afterTail₀ cfgs (dats m) 0 (V0 m) [hostOps1] c main_v31 = result (dat (args m c)) := by
  have key : ∀ (b : Fin 16) (t : Fin 2048) (q : Fin 2),
      Pipeline.afterTail₀ cfgs (dats m) 0 (V0 m) [hostOps1] c main_v31 (ix3 b t q) = result (dat (args m c)) (ix3 b t q) := by
    intro b t q
    refine (tail_eq m c b t q).trans ?_
    rw [array6_real m c h b t, array7_real m c h b t]
    by_cases hq : q = 0
    · rw [if_pos hq]; exact (if_pos (congrArg Fin.val hq)).symm
    · rw [if_neg hq]; exact (if_neg (fun e => hq (Fin.ext e))).symm
  funext j
  have hj : j = ix3 (j 0) (j 1) (j 2) := by funext a; fin_cases a <;> rfl
  rw [hj]
  exact key _ _ _

omit h c in
/-- The kernel terminates with that result and its arguments unchanged. -/
theorem run (ρ : Dev nD → PrngReg) (h : ∀ c, Ok (args m c)) :
    θ_run (defs (F := Ideal)) (onTc (τ := τ) (main (F := Ideal))) ⟨m, fun _ => 0, ρ⟩ (fun r => ∀ c : Dev nD,
      r.2.mem ((c.tc : Thread nD τ).loc main_v31) = result (dat (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ hr c => ⟨((hr.2 c).2 main_v31 (by decide +kernel)).trans (tail_real m c (h c)), hr.1 c⟩)
    (θ_run_and (unchanged m ρ) (run_main m ρ))

end Cert.KHost

end
-- ==== Proof.Kept.lean ====
/- The buffers of the reference that its stretches of operations leave as they are, and its frame. -/
module

public import proofs.«01_k».proof.Proof.Gen.ReferenceIdeal
public import proofs.«01_k».proof.Proof.Gen.ReferenceIdeal.Run
public import Idealize.ShloMosaic.Lib.Quiescent
public import Idealize.ShloMosaic.PureOps.Ideal

@[expose] public section

set_option maxRecDepth 16384

noncomputable section

namespace Cert.Kept

open Idealize.ShloMosaic Idealize.ShloMosaic.TcCoe Idealize.ShloMosaic.StableHlo Idealize.SL Idealize.SL.Sem
open Cert.ReferenceIdeal Cert.ReferenceIdeal.Gen Cert.ReferenceIdeal.Value

/-- The buffers that `hostOps0_1` writes, in order. -/
abbrev W1 : List (Ref sig .tc) := [main_v93, main_v94, main_c_16, main_v95, main_v96, main_c_17, main_v97, main_v98, main_v99, main_v100, main_c_18, main_v101, main_v102, main_c_19]

/-- `hostOps0_1` writes no other buffers. -/
theorem writes1 : (hostOps0_1 : List (HloOp τ sig (Elt Ideal))).Forall fun op =>
    op.writes ⊆ (W1.map (Proc.devRef (τ := τ) .tc)).toFinset :=
  StableHlo.forall_writes_sub_of_map rfl

/-- The buffers that `hostOps0_2` writes, in order. -/
abbrev W2 : List (Ref sig .tc) := [main_call6_v0, main_call6_v1, main_v103]

/-- `hostOps0_2` writes no other buffers. -/
theorem writes2 : (hostOps0_2 : List (HloOp τ sig (Elt Ideal))).Forall fun op =>
    op.writes ⊆ (W2.map (Proc.devRef (τ := τ) .tc)).toFinset :=
  StableHlo.forall_writes_sub_of_map rfl

/-- The buffers that `hostOps0_3` writes, in order. -/
abbrev W3 : List (Ref sig .tc) := [main_v104, main_c_20, main_v105, main_v106, main_c_21]

/-- `hostOps0_3` writes no other buffers. -/
theorem writes3 : (hostOps0_3 : List (HloOp τ sig (Elt Ideal))).Forall fun op =>
    op.writes ⊆ (W3.map (Proc.devRef (τ := τ) .tc)).toFinset :=
  StableHlo.forall_writes_sub_of_map rfl

/-- The buffers that `hostOps0_4` writes, in order. -/
abbrev W4 : List (Ref sig .tc) := [main_call7_v0, main_call7_v1, main_v107]

/-- `hostOps0_4` writes no other buffers. -/
theorem writes4 : (hostOps0_4 : List (HloOp τ sig (Elt Ideal))).Forall fun op =>
    op.writes ⊆ (W4.map (Proc.devRef (τ := τ) .tc)).toFinset :=
  StableHlo.forall_writes_sub_of_map rfl

/-- The buffers that `hostOps0_5` writes, in order. -/
abbrev W5 : List (Ref sig .tc) := [main_cst_22, main_v108, main_v109, main_v110, main_v111, main_c_23, main_v112, main_v113, main_c_24, main_v114, main_v115, main_v116, main_v117, main_v118, main_v119, main_cst_25, main_v120, main_v121, main_v122, main_v123, main_c_26, main_v124, main_v125, main_c_27, main_v126, main_v127, main_v128, main_v129, main_v130, main_v131, main_v132, main_v133, main_v134, main_v135, main_v136, main_v137, main_v138, main_v139]

/-- `hostOps0_5` writes no other buffers. -/
theorem writes5 : (hostOps0_5 : List (HloOp τ sig (Elt Ideal))).Forall fun op =>
    op.writes ⊆ (W5.map (Proc.devRef (τ := τ) .tc)).toFinset :=
  StableHlo.forall_writes_sub_of_map rfl

/-- The buffers that `hostOps0_6` writes, in order. -/
abbrev W6 : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v140]

/-- `hostOps0_6` writes no other buffers. -/
theorem writes6 : (hostOps0_6 : List (HloOp τ sig (Elt Ideal))).Forall fun op =>
    op.writes ⊆ (W6.map (Proc.devRef (τ := τ) .tc)).toFinset :=
  StableHlo.forall_writes_sub_of_map rfl

/-- The buffers that `hostOps0_7` writes, in order. -/
abbrev W7 : List (Ref sig .tc) := [main_v141]

/-- `hostOps0_7` writes no other buffers. -/
theorem writes7 : (hostOps0_7 : List (HloOp τ sig (Elt Ideal))).Forall fun op =>
    op.writes ⊆ (W7.map (Proc.devRef (τ := τ) .tc)).toFinset :=
  StableHlo.forall_writes_sub_of_map rfl

/-- The buffers that `hostOps0_8` writes, in order. -/
abbrev W8 : List (Ref sig .tc) := [main_call9_call0_cst, main_call9_call0_v0, main_v142]

/-- `hostOps0_8` writes no other buffers. -/
theorem writes8 : (hostOps0_8 : List (HloOp τ sig (Elt Ideal))).Forall fun op =>
    op.writes ⊆ (W8.map (Proc.devRef (τ := τ) .tc)).toFinset :=
  StableHlo.forall_writes_sub_of_map rfl

/-- The buffers that `hostOps0_9` writes, in order. -/
abbrev W9 : List (Ref sig .tc) := [main_v143]

/-- `hostOps0_9` writes no other buffers. -/
theorem writes9 : (hostOps0_9 : List (HloOp τ sig (Elt Ideal))).Forall fun op =>
    op.writes ⊆ (W9.map (Proc.devRef (τ := τ) .tc)).toFinset :=
  StableHlo.forall_writes_sub_of_map rfl

/-- The buffers that `hostOps0_10` writes, in order. -/
abbrev W10 : List (Ref sig .tc) := [main_call10_cst, main_call10_v0, main_call10_cst_0, main_call10_v1, main_call10_v2, main_call10_v3, main_call10_v4, main_call10_v5, main_call10_v6, main_call10_cst_1, main_call10_v7, main_call10_v8, main_call10_v9, main_call10_v10, main_v144]

/-- `hostOps0_10` writes no other buffers. -/
theorem writes10 : (hostOps0_10 : List (HloOp τ sig (Elt Ideal))).Forall fun op =>
    op.writes ⊆ (W10.map (Proc.devRef (τ := τ) .tc)).toFinset :=
  StableHlo.forall_writes_sub_of_map rfl

/-- The buffers that `hostOps0_11` writes, in order. -/
abbrev W11 : List (Ref sig .tc) := [main_v145, main_v146, main_v147, main_v148, main_cst_28, main_v149, main_v150]

/-- `hostOps0_11` writes no other buffers. -/
theorem writes11 : (hostOps0_11 : List (HloOp τ sig (Elt Ideal))).Forall fun op =>
    op.writes ⊆ (W11.map (Proc.devRef (τ := τ) .tc)).toFinset :=
  StableHlo.forall_writes_sub_of_map rfl

variable (m : (ℓ : Loc nD τ sig) → Buf (Elt Ideal) ℓ) (c : Dev nD)

/-- A buffer that no operation before the loop writes holds at the loop's entry what it held at the start. -/
theorem pre_kept (r : Ref sig .tc) (h : r ∉ hostOps0_W) :
    entryContents preI m c (Proc.devRef .tc r) = m ((c.tc : Thread nD τ).loc r) := by
  rw [entryContents, afterL_cons, afterL_nil, after_of_writes_sub hostOps0 _ hostOps0_writes h]

/-- The buffers that the loop's condition and body write. -/
abbrev loopW : List (Ref sig .tc) := condOps_W ++ (while0Ops0_W ++ (while0Ops0_1_W ++ (while0Ops0_2_W ++ (while0Ops0_3_W
  ++ (while0Ops0_4_W ++ (while0Ops0_5_W ++ (while0Ops0_6_W ++ (while0Ops0_7_W ++ (while0Ops0_8_W
  ++ (while0Ops0_9_W ++ while0Ops0_10_W))))))))))

/-- A buffer that the loop does not write holds before every trip what it held at the loop's entry. -/
theorem loop_kept (r : Ref sig .tc) (h : r ∉ loopW) (k : ℕ) :
    atK m k c (Proc.devRef .tc r) = entryContents preI m c (Proc.devRef .tc r) := by
  simp only [loopW, List.mem_append, not_or] at h
  obtain ⟨h0, h1, h2, h3, h4, h5, h6, h7, h8, h9, h10, h11⟩ := h
  induction k with
  | zero => rfl
  | succ k ih =>
    rw [show atK m (k + 1) c = afterL bodyI (after condOps (atK m k c)) from rfl]
    simp only [afterL_cons, afterL_nil]
    rw [after_of_writes_sub _ _ while0Ops0_10_writes h11, after_of_writes_sub _ _ while0Ops0_9_writes h10,
      after_of_writes_sub _ _ while0Ops0_8_writes h9, after_of_writes_sub _ _ while0Ops0_7_writes h8,
      after_of_writes_sub _ _ while0Ops0_6_writes h7, after_of_writes_sub _ _ while0Ops0_5_writes h6,
      after_of_writes_sub _ _ while0Ops0_4_writes h5, after_of_writes_sub _ _ while0Ops0_3_writes h4,
      after_of_writes_sub _ _ while0Ops0_2_writes h3, after_of_writes_sub _ _ while0Ops0_1_writes h2,
      after_of_writes_sub _ _ while0Ops0_writes h1, after_of_writes_sub _ _ condOps_writes h0]
    exact ih

/-- The contents of every buffer when the loop has ended. -/
abbrev exit : Valuation τ sig (Elt Ideal) := after condOps (atK m 2048 c)

/-- A buffer that the loop does not write holds at the loop's end what it held at its entry. -/
theorem exit_kept (r : Ref sig .tc) (h : r ∉ loopW) :
    exit m c (Proc.devRef .tc r) = entryContents preI m c (Proc.devRef .tc r) := by
  have h' := h
  simp only [loopW, List.mem_append, not_or] at h'
  rw [exit, after_of_writes_sub _ _ condOps_writes h'.1]
  exact loop_kept m c r h 2048

/-- The buffers that the operations after the loop write. -/
abbrev postW : List (Ref sig .tc) := W1 ++ (W2 ++ (W3 ++ (W4 ++ (W5 ++ (W6 ++ (W7 ++ (W8 ++ (W9 ++ (W10 ++ W11)))))))))

/-- A buffer that no operation after the loop writes keeps its contents through them. -/
theorem post_kept (V : Valuation τ sig (Elt Ideal)) (r : Ref sig .tc) (h : r ∉ postW) :
    afterL postI V (Proc.devRef .tc r) = V (Proc.devRef .tc r) := by
  simp only [postW, List.mem_append, not_or] at h
  obtain ⟨h1, h2, h3, h4, h5, h6, h7, h8, h9, h10, h11⟩ := h
  simp only [afterL_cons, afterL_nil]
  rw [after_of_writes_sub _ _ writes11 h11, after_of_writes_sub _ _ writes10 h10, after_of_writes_sub _ _ writes9 h9,
    after_of_writes_sub _ _ writes8 h8, after_of_writes_sub _ _ writes7 h7, after_of_writes_sub _ _ writes6 h6,
    after_of_writes_sub _ _ writes5 h5, after_of_writes_sub _ _ writes4 h4, after_of_writes_sub _ _ writes3 h3,
    after_of_writes_sub _ _ writes2 h2, after_of_writes_sub _ _ writes1 h1]

/-- A buffer that no operation writes ends as it began. -/
theorem final_kept (r : Ref sig .tc) (h0 : r ∉ hostOps0_W) (h1 : r ∉ loopW) (h2 : r ∉ postW) :
    finalContents condOps preI bodyI postI 2048 m c (Proc.devRef .tc r) = m ((c.tc : Thread nD τ).loc r) := by
  rw [finalContents, post_kept _ r h2]
  exact (exit_kept m c r h1).trans (pre_kept m c r h0)

/-- The reference terminates with its result at the fold and its arguments unchanged. -/
theorem run (ρ : Dev nD → PrngReg) : θ_run (defs (F := Ideal)) (onTc (τ := τ) (main (F := Ideal))) ⟨m, fun _ => 0, ρ⟩
    (fun r => ∀ c : Dev nD,
      r.2.mem ((c.tc : Thread nD τ).loc main_v150) = finalContents condOps preI bodyI postI 2048 m c (Proc.devRef .tc main_v150)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨h c main_v150 (by decide +kernel),
      (h c main_arg0 (by decide +kernel)).trans (final_kept m c main_arg0 (by decide +kernel) (by decide +kernel) (by decide +kernel)),
      (h c main_arg1 (by decide +kernel)).trans (final_kept m c main_arg1 (by decide +kernel) (by decide +kernel) (by decide +kernel)),
      (h c main_arg2 (by decide +kernel)).trans (final_kept m c main_arg2 (by decide +kernel) (by decide +kernel) (by decide +kernel)),
      (h c main_arg3 (by decide +kernel)).trans (final_kept m c main_arg3 (by decide +kernel) (by decide +kernel) (by decide +kernel)),
      (h c main_arg4 (by decide +kernel)).trans (final_kept m c main_arg4 (by decide +kernel) (by decide +kernel) (by decide +kernel)),
      (h c main_arg5 (by decide +kernel)).trans (final_kept m c main_arg5 (by decide +kernel) (by decide +kernel) (by decide +kernel)),
      (h c main_arg6 (by decide +kernel)).trans (final_kept m c main_arg6 (by decide +kernel) (by decide +kernel) (by decide +kernel)),
      (h c main_arg7 (by decide +kernel)).trans (final_kept m c main_arg7 (by decide +kernel) (by decide +kernel) (by decide +kernel))⟩) (run_fold m ρ)

/-- The reference terminates, leaves its arguments unchanged and every semaphore counter at zero. -/
theorem frame (ρ : Dev nD → PrngReg) : θ_run (defs (F := Ideal)) (onTc (τ := τ) (main (F := Ideal))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => (h c).2, sem_eq_zero_of_no_sems (by decide +kernel) r.2⟩) (run m ρ)

end Cert.Kept

end
-- ==== Proof.RHost.lean ====
/- What the reference's loop starts from: the answers, the probabilities of a correct answer, of learning and of forgetting, and the first belief. -/
module

public import proofs.«01_k».proof.Proof.Inputs
public import proofs.«01_k».proof.Proof.Kept
public import Idealize.ShloMosaic.Lib.StableHlo.ReadAt

@[expose] public section

set_option maxRecDepth 16384

noncomputable section

namespace Cert.RHost

open Idealize.ShloMosaic Idealize.SL.Sem Cert.ReferenceIdeal Cert.ReferenceIdeal.Gen Cert.ReferenceIdeal.Value
open Cert.Level Cert.Head Cert.Take Cert.Inputs
open Idealize.ShloMosaic.TcCoe

variable (m : (ℓ : Loc nD τ sig) → Buf (Elt Ideal) ℓ) (c : Dev nD)

/-- The reference's arguments. -/
def args : Args where
  corr := m ((c : Thread nD τ).loc main_arg0)
  kc := m ((c : Thread nD τ).loc main_arg1)
  prob := m ((c : Thread nD τ).loc main_arg2)
  trial := m ((c : Thread nD τ).loc main_arg3)
  tgt := m ((c : Thread nD τ).loc main_arg4)
  dyn := m ((c : Thread nD τ).loc main_arg5)
  op := m ((c : Thread nD τ).loc main_arg6)
  okc := m ((c : Thread nD τ).loc main_arg7)

/-- The contents of core `c`'s buffers where the loop starts. -/
abbrev E : Valuation τ sig (Elt Ideal) := StableHlo.after hostOps0 (fun b => m (c, b))

theorem read_corr (n : Fin 80) (t : Fin 2048) : E m c (Proc.devRef .tc main_v92_0) (ix2 t n) = (args m c).corr (ix2 (rowOf n) t) := by
  unfold E
  after_reads_simp
  simp only [id]
  pointwise
  rfl

theorem read_dyn (n : Fin 80) (q : Fin 3) : E m c (Proc.devRef .tc main_v23) (ix2 n q) = (args m c).dyn (ix2 (kcRow (args m c) (rowOf n)) q) := by
  unfold E
  after_reads_simp
  refine (take_dyn80 _ _ n q).trans ?_
  pointwise
  rfl

/-- One over one plus the exponential of the negative, as the reference writes it. -/
theorem sig_neg (y : EReal) : Ideal.div 1 (1 + Ideal.exp (-y)) = sig y := by
  unfold Head.sig; rw [zero_sub]

theorem read_pL (n : Fin 80) : E m c (Proc.devRef .tc main_v92_2) (ix1 n) = sig ((args m c).dyn (ix2 (kcRow (args m c) (rowOf n)) 0)) := by
  rw [← read_dyn]
  unfold E
  after_reads_simp
  simp only [id]
  pointwise
  exact sig_neg _

theorem read_pF (n : Fin 80) : E m c (Proc.devRef .tc main_v92_3) (ix1 n) = sig ((args m c).dyn (ix2 (kcRow (args m c) (rowOf n)) 1)) := by
  rw [← read_dyn]
  unfold E
  after_reads_simp
  simp only [id]
  pointwise
  exact sig_neg _

theorem read_b0 (n : Fin 80) : E m c (Proc.devRef .tc main_v92_5) (ix2 n 0) = 1 - sig ((args m c).dyn (ix2 (kcRow (args m c) (rowOf n)) 2)) := by
  rw [← read_dyn]
  unfold E
  after_reads_simp
  simp only [id]
  pointwise
  after_reads_simp
  pointwise
  exact congrArg (fun y => 1 - y) (sig_neg _)

theorem read_b1 (n : Fin 80) : E m c (Proc.devRef .tc main_v92_5) (ix2 n 1) = sig ((args m c).dyn (ix2 (kcRow (args m c) (rowOf n)) 2)) := by
  rw [← read_dyn]
  unfold E
  after_reads_simp
  simp only [id]
  pointwise
  after_reads_simp
  pointwise
  exact sig_neg _

/-- The five ability levels, as the reference writes them. -/
theorem lit_val (a : Fin 5) : Ideal.ofBits FTy.f32 (lit0 a) = lvl a := by
  have h0 : Ideal.ofBits FTy.f32 0xC0000000#32 = ((-2 : ℝ) : EReal) := by simp [Ideal.ofBits, Ideal.ieee, -EReal.coe_mul]; norm_num
  have h1 : Ideal.ofBits FTy.f32 0xBF800000#32 = ((-1 : ℝ) : EReal) := by simp [Ideal.ofBits, Ideal.ieee, -EReal.coe_mul]; norm_num
  have h2 : Ideal.ofBits FTy.f32 0x00000000#32 = ((0 : ℝ) : EReal) := by simp [Ideal.ofBits, Ideal.ieee, -EReal.coe_mul]
  have h3 : Ideal.ofBits FTy.f32 0x3F800000#32 = ((1 : ℝ) : EReal) := by simp [Ideal.ofBits, Ideal.ieee, -EReal.coe_mul]; norm_num
  unfold lvl
  fin_cases a
  · exact h0.trans (congrArg _ (by norm_num))
  · exact h1.trans (congrArg _ (by norm_num))
  · exact h2.trans (congrArg _ (by norm_num))
  · exact h3.trans (congrArg _ (by norm_num))
  · exact two_val.trans (congrArg _ (by norm_num))

theorem read_lvl (n : Fin 80) : E m c (Proc.devRef .tc main_v4) (ix1 n) = lvl (lvlOf n) := by
  unfold E
  after_reads_simp
  pointwise
  have e : S5.rowMajor (ix1 (lvlOf n)) = lvlOf n := Fin.ext (Shape.rowMajor_val_one _)
  show Ideal.ofBits FTy.f32 (lit0 (S5.rowMajor (ix1 (lvlOf n)))) = _
  rw [e]
  exact lit_val _

theorem read_trial (n : Fin 80) (t : Fin 2048) : E m c (Proc.devRef .tc main_v13) (ix2 n t) = (args m c).trial (ix2 (rowOf n) t) := by
  unfold E
  after_reads_simp
  pointwise
  rfl

theorem read_level (n : Fin 80) : E m c (Proc.devRef .tc main_v2) (ix1 n) = BitVec.ofNat 32 (lvlOf n).val := by
  unfold E
  after_reads_simp
  pointwise
  rfl

theorem read_op (n : Fin 80) (t : Fin 2048) (q : Fin 2) : E m c (Proc.devRef .tc main_v38) (ix3 n t q) = (args m c).op (ix2 (prRow (args m c) (rowOf n) t) q) := by
  unfold E
  after_reads_simp
  refine (take_problem80 _ _ n t q).trans ?_
  pointwise
  rfl

theorem read_okc (n : Fin 80) (q : Fin 2) : E m c (Proc.devRef .tc main_v30) (ix2 n q) = (args m c).okc (ix2 (kcRow (args m c) (rowOf n)) q) := by
  unfold E
  after_reads_simp
  refine (take_kc80 _ _ n q).trans ?_
  pointwise
  rfl

theorem read_z0 (n : Fin 80) (t : Fin 2048) : E m c (Proc.devRef .tc main_v45) (ix2 n t)
    = lvl (lvlOf n) + ((args m c).okc (ix2 (kcRow (args m c) (rowOf n)) 0) + (args m c).op (ix2 (prRow (args m c) (rowOf n) t) 0)) := by
  rw [← read_op m c, ← read_okc m c, ← read_lvl m c]
  unfold E
  after_reads_simp
  pointwise

theorem read_z1 (n : Fin 80) (t : Fin 2048) : E m c (Proc.devRef .tc main_v50) (ix2 n t)
    = ((args m c).okc (ix2 (kcRow (args m c) (rowOf n)) 1) + (args m c).op (ix2 (prRow (args m c) (rowOf n) t) 1)) - lvl (lvlOf n) := by
  rw [← read_op m c, ← read_okc m c, ← read_lvl m c]
  unfold E
  after_reads_simp
  pointwise

theorem read_c0 (n : Fin 80) (t : Fin 2048) : E m c (Proc.devRef .tc main_v92_1) (ix3 t n 0) = sig (E m c (Proc.devRef .tc main_v45) (ix2 n t)) := by
  unfold E
  after_reads_simp
  simp only [id]
  pointwise
  after_reads_simp
  pointwise
  exact sig_neg _

theorem read_c1 (n : Fin 80) (t : Fin 2048) : E m c (Proc.devRef .tc main_v92_1) (ix3 t n 1) = sig (E m c (Proc.devRef .tc main_v50) (ix2 n t)) := by
  unfold E
  after_reads_simp
  simp only [id]
  pointwise
  after_reads_simp
  pointwise
  exact sig_neg _

end Cert.RHost

end
-- ==== Proof.RTrip.lean ====
/- One trip of the reference's loop: the likelihoods it reads, the probability it writes and the belief it leaves. -/
module

public import proofs.«01_k».proof.Proof.RHost
public import Idealize.ShloMosaic.Lib.DynamicIndex
public import Idealize.ShloMosaic.Lib.WordCmp
public import Idealize.ShloMosaic.Lib.IdealHost

@[expose] public section

set_option maxRecDepth 16384

noncomputable section

open Classical

namespace Cert.RTrip

open Idealize.ShloMosaic Idealize.SL.Sem Cert.ReferenceIdeal Cert.ReferenceIdeal.Gen Cert.ReferenceIdeal.Value
open Cert.Level Cert.Head Cert.Chain Cert.Spec Cert.Filter
open Idealize.ShloMosaic.TcCoe

/-- What the contents `V` hold before trip `k` of the filter on `D`. -/
structure Before (D : Data) (V : Valuation τ sig (Elt Ideal)) (k : ℕ) : Prop where
  ctr : V (Proc.devRef .tc main_v92_4) = fun _ => BitVec.ofNat 32 k
  corr : ∀ (n : Fin 80) (t : Fin 2048), V (Proc.devRef .tc main_v92_0) (ix2 t n) = 1#32 ↔ D.corr n t.val
  c0 : ∀ (n : Fin 80) (t : Fin 2048), V (Proc.devRef .tc main_v92_1) (ix3 t n 0) = ((c0 D n t.val : ℝ) : EReal)
  c1 : ∀ (n : Fin 80) (t : Fin 2048), V (Proc.devRef .tc main_v92_1) (ix3 t n 1) = ((c1 D n t.val : ℝ) : EReal)
  pL : ∀ n : Fin 80, V (Proc.devRef .tc main_v92_2) (ix1 n) = ((sg (D.L n) : ℝ) : EReal)
  pF : ∀ n : Fin 80, V (Proc.devRef .tc main_v92_3) (ix1 n) = ((sg (D.F n) : ℝ) : EReal)
  bel : ∀ (n : Fin 80) (i : Fin 2), V (Proc.devRef .tc main_v92_5) (ix2 n i) = ((belief (S D n) (sg (D.p n)) k i : ℝ) : EReal)
  wrong : ∀ (n : Fin 80) (t : Fin 2048), t.val < k → V (Proc.devRef .tc main_v92_6) (ix3 t n 0) = ((Real.log (1 - P D n t.val) : ℝ) : EReal)
  right : ∀ (n : Fin 80) (t : Fin 2048), t.val < k → V (Proc.devRef .tc main_v92_6) (ix3 t n 1) = ((Real.log (P D n t.val) : ℝ) : EReal)

theorem off3 {k : ℕ} (hk : k < 2048) : S2048x80x2.Slices ![k, 0, 0] S1x80x2 :=
  ⟨rfl, fun a => by fin_cases a <;> simp <;> omega⟩

theorem off2 {k : ℕ} (hk : k < 2048) : S2048x80.Slices ![k, 0] S1x80 :=
  ⟨rfl, fun a => by fin_cases a <;> simp <;> omega⟩

/-- The block of one time of an array of times by rows by two. -/
theorem block3 {α : Type} {k : ℕ} (hk : k < 2048) (x : S2048x80x2.Idx → α) (w : Fin 3 → BufTy.Contents (Elt Ideal) ⟨S_, .i32⟩)
    (h0 : w 0 = fun _ => BitVec.ofNat 32 k) (h1 : w 1 = fun _ => 0#32) (h2 : w 2 = fun _ => 0#32) (n : Fin 80) (q : Fin 2) :
    shapeCast S80x2 (Host.dynamicSlice S1x80x2 x (fun a => (w a (Shape.Idx.first h_S_)).toInt) sliceFits_S2048x80x2_S1x80x2)
      shapeCasts_S1x80x2_S80x2 (ix2 n q) = x (ix3 (⟨k, hk⟩ : Fin 2048) n q) := by
  have e : Host.dynamicSlice S1x80x2 x (fun a => (w a (Shape.Idx.first h_S_)).toInt) sliceFits_S2048x80x2_S1x80x2
      = extractStridedSlice S1x80x2 ![k, 0, 0] x (off3 hk) := by
    refine Host.dynamicSlice_eq_extractStridedSlice _ _ _ _ _ _ fun a => ?_
    fin_cases a
    · exact (congrArg BitVec.toInt (congrFun h0 _)).trans (toInt_ofNat_of_lt (by omega))
    · exact (congrArg BitVec.toInt (congrFun h1 _)).trans rfl
    · exact (congrArg BitVec.toInt (congrFun h2 _)).trans rfl
  rw [e]
  pointwise

/-- The row of one time of an array of times by rows. -/
theorem block2 {α : Type} {k : ℕ} (hk : k < 2048) (x : S2048x80.Idx → α) (w : Fin 2 → BufTy.Contents (Elt Ideal) ⟨S_, .i32⟩)
    (h0 : w 0 = fun _ => BitVec.ofNat 32 k) (h1 : w 1 = fun _ => 0#32) (n : Fin 80) :
    shapeCast S80 (Host.dynamicSlice S1x80 x (fun a => (w a (Shape.Idx.first h_S_)).toInt) sliceFits_S2048x80_S1x80)
      shapeCasts_S1x80_S80 (ix1 n) = x (ix2 (⟨k, hk⟩ : Fin 2048) n) := by
  have e : Host.dynamicSlice S1x80 x (fun a => (w a (Shape.Idx.first h_S_)).toInt) sliceFits_S2048x80_S1x80
      = extractStridedSlice S1x80 ![k, 0] x (off2 hk) := by
    refine Host.dynamicSlice_eq_extractStridedSlice _ _ _ _ _ _ fun a => ?_
    fin_cases a
    · exact (congrArg BitVec.toInt (congrFun h0 _)).trans (toInt_ofNat_of_lt (by omega))
    · exact (congrArg BitVec.toInt (congrFun h1 _)).trans rfl
  rw [e]
  pointwise

theorem reduces_S80x2 : S80x2.Reduces [1] S80 := by decide

/-- The sum of a row of two. -/
theorem sum_two (x : FVec Ideal S80x2 .f32) {a b : ℝ} (n : Fin 80) (ha : x (ix2 n 0) = (a : EReal)) (hb : x (ix2 n 1) = (b : EReal)) :
    Host.reduceAdd x (constant S_ .f32 0x00000000#32) reducesTo_S80x2_S80_d1 h_S_ (ix1 n) = ((a + b : ℝ) : EReal) := by
  refine (Ideal.hostReduceAdd_single reducesTo_S80x2_S80_d1 reduces_S80x2 x _ _).trans ?_
  have e0 : reduces_S80x2.lift (ix1 n) (0 : Fin 2) = ix2 n 0 := by funext c; fin_cases c <;> rfl
  have e1 : reduces_S80x2.lift (ix1 n) (1 : Fin 2) = ix2 n 1 := by funext c; fin_cases c <;> rfl
  have s : ∑ k : Fin 2, x (reduces_S80x2.lift (ix1 n) k) = ((a + b : ℝ) : EReal) := by
    rw [Fin.sum_univ_two, e0, e1, ha, hb, ← EReal.coe_add]
  refine (congrArg₂ (fun u v : EReal => u + v) (Ideal.ofBits_zero_f32) s).trans ?_
  exact zero_add _

/-- A row times the probability of the answer that was given. -/
theorem times_given (b r : FVec Ideal S80x2 .f32) (w : IVec S80 32) (n : Fin 80) (i : Fin 2) {x y : ℝ} {q : Prop}
    (hb : b (ix2 n i) = (x : EReal)) (hr : r (ix2 n i) = (y : EReal)) (hw : w (ix1 n) = 1#32 ↔ q) :
    mulf b (select (broadcastInDim S80x2 ![0, 1] bcast_S80x1_S80x2_0_1 (cmpi .eq (broadcastInDim S80x1 ![0] bcast_S80_S80x1_0 w) (broadcastInDim S80x1 ![] bcast_S_S80x1 (constantI S_ 32 1#32)))) r (subf (broadcastInDim S80x2 ![] bcast_S_S80x2 (constant S_ .f32 0x3F800000#32)) r)) (ix2 n i)
      = ((x * (if q then y else 1 - y) : ℝ) : EReal) := by
  have e : mulf b (select (broadcastInDim S80x2 ![0, 1] bcast_S80x1_S80x2_0_1 (cmpi .eq (broadcastInDim S80x1 ![0] bcast_S80_S80x1_0 w) (broadcastInDim S80x1 ![] bcast_S_S80x1 (constantI S_ 32 1#32)))) r (subf (broadcastInDim S80x2 ![] bcast_S_S80x2 (constant S_ .f32 0x3F800000#32)) r)) (ix2 n i)
      = b (ix2 n i) * (if IntOp.cmpi .eq (w (ix1 n)) 1#32 = 1#1 then r (ix2 n i) else (Scan.one : EReal) - r (ix2 n i)) := by
    pointwise
    rfl
  rw [e, hb, hr, one_val, ← EReal.coe_sub]
  have hc : IntOp.cmpi .eq (w (ix1 n)) 1#32 = 1#1 ↔ q := by
    rw [← hw]
    by_cases h : w (ix1 n) = 1#32
    · rw [h]; simp [IntOp.cmpi]
    · have h' : (w (ix1 n) == 1#32) = false := beq_eq_false_iff_ne.mpr h
      simp [IntOp.cmpi, h', h]
  by_cases h : q
  · rw [if_pos (hc.mpr h), if_pos h, EReal.coe_mul]
  · rw [if_neg (fun a => h (hc.mp a)), if_neg h, EReal.coe_mul]

theorem eps_val : (Scalar.ofBits .f32 0x2B8CBCCC#32 : Ideal .f32) = ((9223372 / 9223372036854775808 : ℝ) : EReal) := by
  simp [Scalar.ofBits, FloatOps.ofBits, Ideal.ofBits, Ideal.ieee, -EReal.coe_mul]; norm_num

/-- A row of two divided by its sum. -/
theorem divided (x : FVec Ideal S80x2 .f32) (n : Fin 80) (i : Fin 2) {a b y : ℝ} (ha : x (ix2 n 0) = (a : EReal))
    (hb : x (ix2 n 1) = (b : EReal)) (hy : x (ix2 n i) = (y : EReal)) (h : 1 / 1000000000 ≤ a + b) :
    Host.divf x (broadcastInDim S80x2 ![0, 1] bcast_S80x1_S80x2_0_1 (maximumf (broadcastInDim S80x1 ![] bcast_S_S80x1 (id (constant S_ .f32 0x2B8CBCCC#32))) (broadcastInDim S80x1 ![0] bcast_S80_S80x1_0 (Host.reduceAdd x (constant S_ .f32 0x00000000#32) reducesTo_S80x2_S80_d1 h_S_)))) (ix2 n i)
      = ((y / (a + b) : ℝ) : EReal) := by
  have s := sum_two x n ha hb
  obtain ⟨v, hv⟩ : ∃ v, v = Host.reduceAdd x (constant S_ .f32 0x00000000#32) reducesTo_S80x2_S80_d1 h_S_ := ⟨_, rfl⟩
  rw [← hv] at s ⊢
  have e : Host.divf x (broadcastInDim S80x2 ![0, 1] bcast_S80x1_S80x2_0_1 (maximumf (broadcastInDim S80x1 ![] bcast_S_S80x1 (id (constant S_ .f32 0x2B8CBCCC#32))) (broadcastInDim S80x1 ![0] bcast_S80_S80x1_0 v))) (ix2 n i)
      = Ideal.div (x (ix2 n i)) (max (Scalar.ofBits .f32 0x2B8CBCCC#32 : Ideal .f32) (v (ix1 n))) := by
    simp only [id]
    pointwise
  rw [e, s, hy, eps_val, max_eq_right (by exact_mod_cast le_trans (by norm_num) h), div_real]
  have : (0 : ℝ) < a + b := lt_of_lt_of_le (by norm_num) h
  exact this.ne'

/-- The belief after learning and forgetting. -/
def moved (x : FVec Ideal S80x2 .f32) (l f : FVec Ideal S80 .f32) : FVec Ideal S80x2 .f32 :=
  concatenate S80x2 1 [⟨S80x1, (broadcastInDim S80x1 ![0] bcast_S80_S80x1_0 (addf (mulf (shapeCast S80 (extractStridedSlice S80x1 ![0, 0] x slices_S80x2_S80x1_0_0) shapeCasts_S80x1_S80) (subf (broadcastInDim S80 ![] bcast_S_S80 (constant S_ .f32 0x3F800000#32)) l)) (mulf (shapeCast S80 (extractStridedSlice S80x1 ![0, 1] x slices_S80x2_S80x1_0_1) shapeCasts_S80x1_S80) f)))⟩, ⟨S80x1, (broadcastInDim S80x1 ![0] bcast_S80_S80x1_0 (addf (mulf (shapeCast S80 (extractStridedSlice S80x1 ![0, 0] x slices_S80x2_S80x1_0_0) shapeCasts_S80x1_S80) l) (mulf (shapeCast S80 (extractStridedSlice S80x1 ![0, 1] x slices_S80x2_S80x1_0_1) shapeCasts_S80x1_S80) (subf (broadcastInDim S80 ![] bcast_S_S80 (constant S_ .f32 0x3F800000#32)) f))))⟩] concatenates_S80x1_S80x1_S80x2_d1

theorem moved0 (x : FVec Ideal S80x2 .f32) (l f : FVec Ideal S80 .f32) (n : Fin 80) {a b p q : ℝ} (ha : x (ix2 n 0) = (a : EReal))
    (hb : x (ix2 n 1) = (b : EReal)) (hl : l (ix1 n) = (p : EReal)) (hf : f (ix1 n) = (q : EReal)) :
    moved x l f (ix2 n 0) = ((a * (1 - p) + b * q : ℝ) : EReal) := by
  have e : moved x l f (ix2 n 0) = x (ix2 n 0) * ((Scan.one : EReal) - l (ix1 n)) + x (ix2 n 1) * f (ix1 n) := by
    unfold moved
    pointwise
  rw [e, ha, hb, hl, hf, one_val, ← EReal.coe_sub, ← EReal.coe_mul, ← EReal.coe_mul, ← EReal.coe_add]

theorem moved1 (x : FVec Ideal S80x2 .f32) (l f : FVec Ideal S80 .f32) (n : Fin 80) {a b p q : ℝ} (ha : x (ix2 n 0) = (a : EReal))
    (hb : x (ix2 n 1) = (b : EReal)) (hl : l (ix1 n) = (p : EReal)) (hf : f (ix1 n) = (q : EReal)) :
    moved x l f (ix2 n 1) = ((a * p + b * (1 - q) : ℝ) : EReal) := by
  have e : moved x l f (ix2 n 1) = x (ix2 n 0) * l (ix1 n) + x (ix2 n 1) * ((Scan.one : EReal) - f (ix1 n)) := by
    unfold moved
    pointwise
  rw [e, ha, hb, hl, hf, one_val, ← EReal.coe_sub, ← EReal.coe_mul, ← EReal.coe_mul, ← EReal.coe_add]

/-- The two logarithms of a probability, one time's block of the results. -/
def logs (x : FVec Ideal S80 .f32) : FVec Ideal S1x80x2 .f32 :=
  broadcastInDim S1x80x2 ![1, 2] bcast_S80x2_S1x80x2_1_2 (concatenate S80x2 1 [⟨S80x1, (broadcastInDim S80x1 ![0] bcast_S80_S80x1_0 (Host.log1p (Host.negf x)))⟩, ⟨S80x1, (broadcastInDim S80x1 ![0] bcast_S80_S80x1_0 (Host.log x))⟩] concatenates_S80x1_S80x1_S80x2_d1)

theorem logs0 (x : FVec Ideal S80 .f32) (n : Fin 80) {p : ℝ} (hx : x (ix1 n) = (p : EReal)) (hp : p < 1) :
    logs x (ix3 0 n 0) = ((Real.log (1 - p) : ℝ) : EReal) := by
  have e : logs x (ix3 0 n 0) = Ideal.log (1 + -(x (ix1 n))) := by
    unfold logs
    pointwise
    rfl
  rw [e, hx, ← EReal.coe_neg, ← EReal.coe_one, ← EReal.coe_add, ← sub_eq_add_neg]
  exact log_real (by linarith)

theorem logs1 (x : FVec Ideal S80 .f32) (n : Fin 80) {p : ℝ} (hx : x (ix1 n) = (p : EReal)) (hp : 0 < p) :
    logs x (ix3 0 n 1) = ((Real.log p : ℝ) : EReal) := by
  have e : logs x (ix3 0 n 1) = Ideal.log (x (ix1 n)) := by
    unfold logs
    pointwise
  rw [e, hx]
  exact log_real hp

/-- One time's block written into an array of times by rows by two. -/
theorem write3 {k : ℕ} (hk : k < 2048) (x : FVec Ideal S2048x80x2 .f32) (u : FVec Ideal S1x80x2 .f32) (w : Fin 3 → BufTy.Contents (Elt Ideal) ⟨S_, .i32⟩)
    (h0 : w 0 = fun _ => BitVec.ofNat 32 k) (h1 : w 1 = fun _ => 0#32) (h2 : w 2 = fun _ => 0#32) (n : Fin 80) (t : Fin 2048) (q : Fin 2) :
    Host.dynamicUpdateSlice x u (fun a => (w a (Shape.Idx.first h_S_)).toInt) updateFits_S2048x80x2_S1x80x2 (ix3 t n q)
      = if t.val = k then u (ix3 0 n q) else x (ix3 t n q) := by
  have e : Host.dynamicUpdateSlice x u (fun a => (w a (Shape.Idx.first h_S_)).toInt) updateFits_S2048x80x2_S1x80x2
      = updateSlice x u ![k, 0, 0] (off3 hk) := by
    refine WordCmp.dynamicUpdateSlice_eq_update _ _ _ _ _ _ fun a => ?_
    fin_cases a
    · exact (congrArg BitVec.toInt (congrFun h0 _)).trans (toInt_ofNat_of_lt (by omega))
    · exact (congrArg BitVec.toInt (congrFun h1 _)).trans rfl
    · exact (congrArg BitVec.toInt (congrFun h2 _)).trans rfl
  rw [e, updateSlice_apply]
  by_cases h : t.val = k
  · rw [if_pos h, dif_pos (fun a => by fin_cases a <;> simp <;> omega)]
    refine congrArg u ?_
    funext a
    fin_cases a
    · exact Fin.ext (show t.val - k = 0 by omega)
    · rfl
    · rfl
  · rw [if_neg h, dif_neg]
    intro hin
    have h0 : k ≤ t.val ∧ t.val < k + 1 := hin 0
    omega

variable {D : Data} {V : Valuation τ sig (Elt Ideal)} {k : ℕ} (hk : k < 2048) (B : Before D V k)
include hk B

theorem read_pc (n : Fin 80) (q : Fin 2) : res_main_while0b_v152 V (ix2 n q) = V (Proc.devRef .tc main_v92_1) (ix3 (⟨k, hk⟩ : Fin 2048) n q) := by
  unfold res_main_while0b_v152
  exact block3 hk _ _ B.ctr rfl rfl n q

theorem val_c0 (n : Fin 80) : res_main_while0b_v152 V (ix2 n 0) = ((Spec.c0 D n k : ℝ) : EReal) := by
  rw [read_pc hk B, B.c0]

theorem val_c1 (n : Fin 80) : res_main_while0b_v152 V (ix2 n 1) = ((Spec.c1 D n k : ℝ) : EReal) := by
  rw [read_pc hk B, B.c1]

variable (W : Within D)
include W

theorem val_P (n : Fin 80) : res_main_while0b_v155 V (ix1 n) = ((P D n k : ℝ) : EReal) := by
  have hp := P_bounds W n k
  have s := sum_two (mulf (V (Proc.devRef .tc main_v92_5)) (res_main_while0b_v152 V)) n
    (a := belief (S D n) (sg (D.p n)) k 0 * Spec.c0 D n k) (b := belief (S D n) (sg (D.p n)) k 1 * Spec.c1 D n k)
    ((congrArg₂ (fun u v : EReal => u * v) (B.bel n 0) (val_c0 hk B n)).trans (EReal.coe_mul _ _).symm)
    ((congrArg₂ (fun u v : EReal => u * v) (B.bel n 1) (val_c1 hk B n)).trans (EReal.coe_mul _ _).symm)
  have s' : _ = ((P D n k : ℝ) : EReal) := s
  unfold res_main_while0b_v155
  refine (congrArg (fun u : EReal => min (Scalar.ofBits .f32 0x3F7FFFEF#32 : Ideal .f32) (max (Scalar.ofBits .f32 0x358637BD#32 : Ideal .f32) u)) s').trans ?_
  rw [lo_val, hi_val, max_eq_right (by exact_mod_cast le_trans (by norm_num) hp.1),
    min_eq_right (by exact_mod_cast le_trans hp.2 (by norm_num))]

omit W in
/-- The belief times the likelihood of the answer. -/
theorem val_k (n : Fin 80) (i : Fin 2) {c : ℝ} (hc : res_main_while0b_v152 V (ix2 n i) = (c : EReal)) :
    res_main_while0b_v168 V (ix2 n i)
      = ((belief (S D n) (sg (D.p n)) k i * (if D.corr n k then c else 1 - c) : ℝ) : EReal) := by
  have hw := (congrArg (· = 1#32) (block2 hk (V (Proc.devRef .tc main_v92_0)) ![V (Proc.devRef .tc main_v92_4), constantI S_ 32 0#32] B.ctr rfl n)).to_iff.trans
    (B.corr n ⟨k, hk⟩)
  unfold res_main_while0b_v168
  exact times_given _ _ _ n i (B.bel n i) hc hw

theorem val_post (n : Fin 80) (i : Fin 2) {y : ℝ} (hy : res_main_while0b_v168 V (ix2 n i) = (y : EReal)) :
    res_main_while0b_v173 V (ix2 n i) = ((y / (belief (S D n) (sg (D.p n)) k 0 * k0 D n k + belief (S D n) (sg (D.p n)) k 1 * k1 D n k) : ℝ) : EReal) := by
  have b0 := belief_nonneg (good_S W n) (sg_nonneg (D.p n)) (sg_le_one (D.p n)) k 0
  have b1 := belief_nonneg (good_S W n) (sg_nonneg (D.p n)) (sg_le_one (D.p n)) k 1
  have bs := belief_sum (good_S W n) (sg_nonneg (D.p n)) (sg_le_one (D.p n)) k
  have h0 : 1 / 450001 ≤ k0 D n k := by
    have h := c0_bounds W n k
    unfold k0; split <;> linarith
  have h1 : 1 / 450001 ≤ k1 D n k := by
    have h := c1_bounds W n k
    unfold k1; split <;> linarith
  have hs : 1 / 1000000000 ≤ belief (S D n) (sg (D.p n)) k 0 * k0 D n k + belief (S D n) (sg (D.p n)) k 1 * k1 D n k :=
    le_trans (by norm_num) (show 1 / 450001 ≤ _ by nlinarith)
  unfold res_main_while0b_v173
  exact divided _ n i (val_k hk B n 0 (val_c0 hk B n)) (val_k hk B n 1 (val_c1 hk B n)) hy hs

theorem val_post0 (n : Fin 80) : res_main_while0b_v173 V (ix2 n 0) = ((belief (S D n) (sg (D.p n)) k 0 * k0 D n k / (belief (S D n) (sg (D.p n)) k 0 * k0 D n k + belief (S D n) (sg (D.p n)) k 1 * k1 D n k) : ℝ) : EReal) :=
  val_post hk B W n 0 (val_k hk B n 0 (val_c0 hk B n))

theorem val_post1 (n : Fin 80) : res_main_while0b_v173 V (ix2 n 1) = ((belief (S D n) (sg (D.p n)) k 1 * k1 D n k / (belief (S D n) (sg (D.p n)) k 0 * k0 D n k + belief (S D n) (sg (D.p n)) k 1 * k1 D n k) : ℝ) : EReal) :=
  val_post hk B W n 1 (val_k hk B n 1 (val_c1 hk B n))

theorem next_bel0 (n : Fin 80) : step_main_v92_5 V (ix2 n 0) = ((belief (S D n) (sg (D.p n)) (k + 1) 0 : ℝ) : EReal) := by
  unfold step_main_v92_5
  refine (moved0 _ _ _ n (val_post0 hk B W n) (val_post1 hk B W n) (B.pL n) (B.pF n)).trans (congrArg _ ?_)
  rw [belief_succ (good_S W n) (sg_nonneg (D.p n)) (sg_le_one (D.p n))]
  have hd : S D n k 0 0 * belief (S D n) (sg (D.p n)) k 0 + S D n k 0 1 * belief (S D n) (sg (D.p n)) k 1
      + (S D n k 1 0 * belief (S D n) (sg (D.p n)) k 0 + S D n k 1 1 * belief (S D n) (sg (D.p n)) k 1)
      = belief (S D n) (sg (D.p n)) k 0 * k0 D n k + belief (S D n) (sg (D.p n)) k 1 * k1 D n k := by
    show (1 - sg (D.L n)) * k0 D n k * _ + sg (D.F n) * k1 D n k * _ + (sg (D.L n) * k0 D n k * _ + (1 - sg (D.F n)) * k1 D n k * _) = _
    ring
  rw [hd]
  show _ = ((1 - sg (D.L n)) * k0 D n k * _ + sg (D.F n) * k1 D n k * _) / _
  ring

theorem next_bel1 (n : Fin 80) : step_main_v92_5 V (ix2 n 1) = ((belief (S D n) (sg (D.p n)) (k + 1) 1 : ℝ) : EReal) := by
  unfold step_main_v92_5
  refine (moved1 _ _ _ n (val_post0 hk B W n) (val_post1 hk B W n) (B.pL n) (B.pF n)).trans (congrArg _ ?_)
  rw [belief_succ (good_S W n) (sg_nonneg (D.p n)) (sg_le_one (D.p n))]
  have hd : S D n k 0 0 * belief (S D n) (sg (D.p n)) k 0 + S D n k 0 1 * belief (S D n) (sg (D.p n)) k 1
      + (S D n k 1 0 * belief (S D n) (sg (D.p n)) k 0 + S D n k 1 1 * belief (S D n) (sg (D.p n)) k 1)
      = belief (S D n) (sg (D.p n)) k 0 * k0 D n k + belief (S D n) (sg (D.p n)) k 1 * k1 D n k := by
    show (1 - sg (D.L n)) * k0 D n k * _ + sg (D.F n) * k1 D n k * _ + (sg (D.L n) * k0 D n k * _ + (1 - sg (D.F n)) * k1 D n k * _) = _
    ring
  rw [hd]
  show _ = (sg (D.L n) * k0 D n k * _ + (1 - sg (D.F n)) * k1 D n k * _) / _
  ring

theorem next_out (n : Fin 80) (t : Fin 2048) (q : Fin 2) : step_main_v92_6 V (ix3 t n q)
    = if t.val = k then logs (res_main_while0b_v155 V) (ix3 0 n q) else V (Proc.devRef .tc main_v92_6) (ix3 t n q) := by
  unfold step_main_v92_6
  exact write3 hk _ _ _ B.ctr rfl rfl n t q

/-- What the next trip starts from. -/
theorem next : Before D (STEP V) (k + 1) := by
  constructor
  · rw [STEP_main_v92_4]
    unfold step_main_v92_4
    funext j
    exact (congrArg (fun v : BitVec 32 => v + 1#32) (congrFun B.ctr j)).trans (BitVec.ofNat_add k 1).symm
  · rw [STEP_main_v92_0]; exact B.corr
  · rw [STEP_main_v92_1]; exact B.c0
  · rw [STEP_main_v92_1]; exact B.c1
  · rw [STEP_main_v92_2]; exact B.pL
  · rw [STEP_main_v92_3]; exact B.pF
  · intro n
    rw [STEP_main_v92_5]
    exact Fin.forall_fin_two.mpr ⟨next_bel0 hk B W n, next_bel1 hk B W n⟩
  · intro n t ht
    have hp := P_bounds W n k
    rw [STEP_main_v92_6, next_out hk B W n t 0]
    by_cases h : t.val = k
    · rw [if_pos h, h]
      exact logs0 _ n (val_P hk B W n) (lt_of_le_of_lt hp.2 (by norm_num))
    · rw [if_neg h]; exact B.wrong n t (by omega)
  · intro n t ht
    have hp := P_bounds W n k
    rw [STEP_main_v92_6, next_out hk B W n t 1]
    by_cases h : t.val = k
    · rw [if_pos h, h]
      exact logs1 _ n (val_P hk B W n) (lt_of_lt_of_le (by norm_num) hp.1)
    · rw [if_neg h]; exact B.right n t (by omega)

end Cert.RTrip

end
-- ==== Proof.RLoop.lean ====
/- What the reference's loop leaves: the logarithms of the probabilities of both answers at every time. -/
module

public import proofs.«01_k».proof.Proof.RTrip

@[expose] public section

set_option maxRecDepth 16384

noncomputable section

open Classical

namespace Cert.RLoop

open Idealize.ShloMosaic Idealize.SL.Sem Cert.ReferenceIdeal Cert.ReferenceIdeal.Gen Cert.ReferenceIdeal.Value
open Cert.Level Cert.Head Cert.Chain Cert.Spec Cert.Filter Cert.Inputs Cert.RTrip Cert.RHost
open Idealize.ShloMosaic.TcCoe

variable (m : (ℓ : Loc nD τ sig) → Buf (Elt Ideal) ℓ) (c : Dev nD) (h : Ok (args m c))
include h

theorem start : Before (dat (args m c)) (StableHlo.entryContents preI m c) 0 := by
  constructor
  · exact (atK_ctr m c 0).trans rfl
  · intro n t
    have e := read_corr m c n t
    show E m c (Proc.devRef .tc main_v92_0) (ix2 t n) = 1#32 ↔ (args m c).corr (ix2 (rowOf n) (at_ t.val)) = 1#32
    rw [e, at_val]
  · intro n t
    show E m c (Proc.devRef .tc main_v92_1) (ix3 t n 0) = _
    rw [read_c0, read_z0, z0_eq h, sig_real]; rfl
  · intro n t
    show E m c (Proc.devRef .tc main_v92_1) (ix3 t n 1) = _
    rw [read_c1, read_z1, z1_eq h, sig_real]; rfl
  · intro n
    show E m c (Proc.devRef .tc main_v92_2) (ix1 n) = _
    rw [read_pL, sig_real]; rfl
  · intro n
    show E m c (Proc.devRef .tc main_v92_3) (ix1 n) = _
    rw [read_pF, sig_real]; rfl
  · intro n
    refine Fin.forall_fin_two.mpr ⟨?_, ?_⟩
    · show E m c (Proc.devRef .tc main_v92_5) (ix2 n 0) = _
      rw [read_b0, sig_real, ← EReal.coe_one, ← EReal.coe_sub, (belief_zero _ _).1]; rfl
    · show E m c (Proc.devRef .tc main_v92_5) (ix2 n 1) = _
      rw [read_b1, sig_real, (belief_zero _ _).2]; rfl
  · intro n t ht; omega
  · intro n t ht; omega

theorem trips : ∀ k ≤ 2048, Before (dat (args m c)) (STEP^[k] (StableHlo.entryContents preI m c)) k
  | 0, _ => start m c h
  | k + 1, hk => by
    rw [Function.iterate_succ_apply']
    exact next (by omega) (trips k (by omega)) (within h)

/-- The results of the trips so far: the logarithm of the probability of a wrong answer. -/
theorem wrong (k : ℕ) (hk : k ≤ 2048) (n : Fin 80) (t : Fin 2048) (ht : t.val < k) :
    atK m k c (Proc.devRef .tc main_v92_6) (ix3 t n 0) = ((Real.log (1 - P (dat (args m c)) n t.val) : ℝ) : EReal) := by
  rw [atK_agree m c k main_v92_6 (by decide)]
  exact (trips m c h k hk).wrong n t ht

/-- The results of the trips so far: the logarithm of the probability of a correct answer. -/
theorem right (k : ℕ) (hk : k ≤ 2048) (n : Fin 80) (t : Fin 2048) (ht : t.val < k) :
    atK m k c (Proc.devRef .tc main_v92_6) (ix3 t n 1) = ((Real.log (P (dat (args m c)) n t.val) : ℝ) : EReal) := by
  rw [atK_agree m c k main_v92_6 (by decide)]
  exact (trips m c h k hk).right n t ht

end Cert.RLoop

end
-- ==== Proof.RScatter.lean ====
/- A scatter that writes each update at its own position; and a sum over a trailing window, as sums of real numbers. -/
module

public import proofs.«01_k».proof.Proof.RLoop
public import Idealize.ShloMosaic.Lib.Routing.OpsSet

@[expose] public section

set_option maxRecDepth 16384

noncomputable section

namespace Cert.RScatter

open Idealize.ShloMosaic Cert.ReferenceIdeal Cert.ReferenceIdeal.Gen
open Cert.Level

/-- Where an update starts. -/
theorem start_at (i : Fin 163840) (idx : IVec S163840x1 32) :
    scatter_S163841_S163840x1_S163840_n_0_0_1.start (ix1 i) idx 0 = (idx (ix2 i 0)).toInt := by
  unfold ScatterDims.start
  rw [dif_pos (by decide)]
  refine congrArg (fun j => (idx j).toInt) ?_
  funext b
  fin_cases b
  · refine Fin.ext ?_
    unfold ScatterDims.siIdx
    rw [dif_neg (by decide)]
    unfold ScatterDims.siCoord
    simp only [Fin.val_cast]
    have e : ∀ k : Fin 1, (ix1 i k).val = i.val := fun k => by
      obtain rfl : k = 0 := Subsingleton.elim _ _
      rfl
    exact e _
  · exact Subsingleton.elim (α := Fin 1) _ _

theorem window_at (i : Fin 163840) : scatter_S163841_S163840x1_S163840_n_0_0_1.window (ix1 i) 0 = 0 := by
  unfold ScatterDims.window
  rw [dif_neg (by decide)]

/-- Which position an update is written at. -/
theorem lands (i : Fin 163840) (idx : IVec S163840x1 32) (x : Fin 163841) :
    scatter_S163841_S163840x1_S163840_n_0_0_1.resultIdx? (ix1 i) idx = some (ix1 x) ↔ (idx (ix2 i 0)).toInt = (x.val : ℤ) := by
  have hx := x.isLt
  have hs := start_at i idx
  have hw := window_at i
  unfold ScatterDims.resultIdx?
  by_cases h : 0 ≤ (idx (ix2 i 0)).toInt ∧ (idx (ix2 i 0)).toInt < 163841
  · rw [dif_pos (fun a => by
      obtain rfl : a = 0 := Subsingleton.elim (α := Fin 1) _ _
      rw [hs, hw]
      exact ⟨by omega, by show _ < ((163841 : ℕ) : ℤ); omega⟩)]
    constructor
    · intro e
      have e0 := congrArg Fin.val (congrFun (Option.some.inj e) 0)
      change (scatter_S163841_S163840x1_S163840_n_0_0_1.start (ix1 i) idx 0 + (scatter_S163841_S163840x1_S163840_n_0_0_1.window (ix1 i) 0 : ℤ)).toNat = x.val at e0
      rw [hs, hw] at e0
      omega
    · intro e
      refine congrArg some (funext fun a => Fin.ext ?_)
      obtain rfl : a = 0 := Subsingleton.elim (α := Fin 1) _ _
      show (scatter_S163841_S163840x1_S163840_n_0_0_1.start (ix1 i) idx 0 + (scatter_S163841_S163840x1_S163840_n_0_0_1.window (ix1 i) 0 : ℤ)).toNat = x.val
      rw [hs, hw]
      omega
  · rw [dif_neg (fun a => h (by
      have a0 := a 0
      rw [hs, hw] at a0
      exact ⟨by omega, by have := a0.2; change _ < ((163841 : ℕ) : ℤ) at this; omega⟩))]
    constructor
    · intro e; cases e
    · intro e; omega

/-- A scatter whose indices count up from zero copies the updates. -/
theorem put_back {α : Type} (x : S163841.Idx → α) (idx : IVec S163840x1 32) (u : S163840.Idx → α)
    (h : ∀ i : Fin 163840, idx (ix2 i 0) = BitVec.ofNat 32 i.val) (i : Fin 163840) :
    Host.scatter scatter_S163841_S163840x1_S163840_n_0_0_1 (fun _ b => b) x idx u (ix1 (⟨i.val, by omega⟩ : Fin 163841)) = u (ix1 i) := by
  have e : ∀ k : Fin 163840, (idx (ix2 k 0)).toInt = (k.val : ℤ) := fun k => by
    rw [h k]; exact toInt_ofNat_of_lt (by omega)
  refine Routing.scatter_set_hit _ x idx u _ _ (fun k hk => ?_) (ix1 i) ((lands i idx _).mpr (e i))
  have ek : k = ix1 (k 0) := by
    funext a
    obtain rfl : a = 0 := Subsingleton.elim (α := Fin 1) _ _
    rfl
  rw [ek] at hk
  have h2 := (lands (k 0) idx _).mp hk
  have h3 := (e (k 0)).symm.trans h2
  rw [ek]
  exact congrArg (fun j => u (ix1 j)) (Fin.ext (by exact_mod_cast h3))

/-- A left fold of additions is the sum. -/
theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The sum over the window that ends at each time, of real numbers. -/
theorem window_sum {N M : ℕ} (hM : M + 1 = N) (f : ℕ → ℝ) (t : ℕ) (ht : t < N) :
    ∑ w : Fin N, (if M ≤ t + w.val then f (t + w.val - M) else 0) = ∑ s ∈ Finset.range (t + 1), f s := by
  rw [Fin.sum_univ_eq_sum_range (fun w => if M ≤ t + w then f (t + w - M) else 0) N, ← Finset.sum_filter]
  have e : (Finset.range N).filter (fun w => M ≤ t + w) = Finset.Ico (M - t) N := by
    ext w; simp only [Finset.mem_filter, Finset.mem_range, Finset.mem_Ico]; omega
  rw [e, Finset.sum_Ico_eq_sum_range]
  refine Finset.sum_congr (congrArg _ (by omega)) fun s hs => congrArg f ?_
  have := Finset.mem_range.mp hs
  omega

/-- A sum over windows from zero, as a sum over the positions of the window. -/
theorem windows {s t : Shape} (window strides lo hi : Fin s.rank → ℕ) (h : s.ReduceWindows window strides lo hi t)
    (x : s.Idx → EReal) (j : t.Idx) :
    Ideal.hostReduceWindowAdd window strides lo hi h x 0 j
      = ∑ w : (⟨s.rank, window⟩ : Shape).Idx, if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else 0 := by
  unfold Ideal.hostReduceWindowAdd Host.reduceWindow
  refine (foldl_sum _ _ _).trans ?_
  rw [zero_add, ← Fin.sum_univ_def]
  refine Eq.trans (Finset.sum_congr rfl fun n _ => ?_) (Equiv.sum_comp (Shape.rowMajor (⟨s.rank, window⟩ : Shape)).symm (fun w => if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else 0))
  by_cases hin : ∀ a, lo a ≤ (j (a.cast h.1.symm)).val * strides a + ((Shape.rowMajor (⟨s.rank, window⟩ : Shape)).symm n a).val
      ∧ (j (a.cast h.1.symm)).val * strides a + ((Shape.rowMajor (⟨s.rank, window⟩ : Shape)).symm n a).val - lo a < s.size a
  · rw [dif_pos hin, dif_pos hin]
  · rw [dif_neg hin, dif_neg hin]

/-- A finite sum of real numbers. -/
theorem coe_sum' {n : ℕ} (f : Fin n → ℝ) : ((∑ w, f w : ℝ) : EReal) = ∑ w, ((f w : ℝ) : EReal) := by
  induction n with
  | zero => simp
  | succ n ih => rw [Fin.sum_univ_succ, Fin.sum_univ_succ, EReal.coe_add, ih]

variable {A B N : ℕ}

/-- The shape of the window. -/
abbrev Win (N : ℕ) : Shape := ⟨3, ![1, 1, N]⟩

theorem win_eq (j : (Win N).Idx) : j = ix3 (0 : Fin 1) (0 : Fin 1) (j 2) := by
  funext a
  fin_cases a
  · exact Subsingleton.elim (α := Fin 1) _ _
  · exact Subsingleton.elim (α := Fin 1) _ _
  · rfl

/-- The positions of the window, numbered. -/
def winEquiv : (Win N).Idx ≃ Fin N where
  toFun j := j 2
  invFun w := ix3 (0 : Fin 1) (0 : Fin 1) w
  left_inv j := (win_eq j).symm
  right_inv _ := rfl

/-- The running sums along the last axis. -/
theorem running {M : ℕ} (hM : M + 1 = N) (x : (⟨3, ![A, B, N]⟩ : Shape).Idx → EReal)
    (h : (⟨3, ![A, B, N]⟩ : Shape).ReduceWindows ![1, 1, N] ![1, 1, 1] ![0, 0, M] ![0, 0, 0] ⟨3, ![A, B, N]⟩) (b : Fin A) (a : Fin B)
    (f : ℕ → ℝ) (hx : ∀ t : Fin N, x (ix3 b a t) = ((f t.val : ℝ) : EReal)) (t : Fin N) :
    Ideal.hostReduceWindowAdd ![1, 1, N] ![1, 1, 1] ![0, 0, M] ![0, 0, 0] h x 0 (ix3 b a t)
      = ((∑ s ∈ Finset.range (t.val + 1), f s : ℝ) : EReal) := by
  refine (windows ![1, 1, N] ![1, 1, 1] ![0, 0, M] ![0, 0, 0] h x (ix3 b a t)).trans ?_
  rw [← window_sum hM f t.val t.isLt, coe_sum']
  refine Fintype.sum_equiv winEquiv _ _ fun w => ?_
  obtain ⟨w, rfl⟩ := winEquiv.symm.surjective w
  rw [Equiv.apply_symm_apply]
  by_cases hw : M ≤ t.val + w.val
  · rw [if_pos hw, dif_pos (fun c => by
      fin_cases c
      · exact ⟨Nat.zero_le _, by have := b.isLt; show b.val * 1 + 0 - 0 < A; omega⟩
      · exact ⟨Nat.zero_le _, by have := a.isLt; show a.val * 1 + 0 - 0 < B; omega⟩
      · exact ⟨by show M ≤ t.val * 1 + w.val; omega, by show t.val * 1 + w.val - M < N; omega⟩), ← hx ⟨t.val + w.val - M, by omega⟩]
    refine congrArg x ?_
    funext c
    fin_cases c
    · exact Fin.ext (show b.val * 1 + 0 - 0 = b.val by omega)
    · exact Fin.ext (show a.val * 1 + 0 - 0 = a.val by omega)
    · exact Fin.ext (show t.val * 1 + w.val - M = t.val + w.val - M by omega)
  · rw [if_neg hw, dif_neg, EReal.coe_zero]
    intro hin
    have h2 : M ≤ t.val * 1 + w.val := (hin 2).1
    omega

theorem windows_host {s t u : Shape} (window strides lo hi : Fin s.rank → ℕ) (x : FVec Ideal s .f32) (v : FVec Ideal u .f32)
    (h : s.ReduceWindows window strides lo hi t) (hu : 0 < u.numel) (j : t.Idx) :
    Host.reduceWindowAdd window strides lo hi x v h hu j = Ideal.hostReduceWindowAdd window strides lo hi h x (v (Shape.Idx.first hu)) j := rfl

/-- The running sums of the program. -/
theorem cumulative (x : FVec Ideal S16x5x2048 .f32) (v : FVec Ideal S_ .f32) (hv : ∀ i, v i = 0) (b : Fin 16) (a : Fin 5) (f : ℕ → ℝ)
    (hx : ∀ t : Fin 2048, x (ix3 b a t) = ((f t.val : ℝ) : EReal)) (t : Fin 2048) :
    Host.reduceWindowAdd ![1, 1, 2048] ![1, 1, 1] ![0, 0, 2047] ![0, 0, 0] x v reduceWindows_S16x5x2048_S16x5x2048_w1s1p0_0_w1s1p0_0_w2048s1p2047_0 h_S_ (ix3 b a t)
      = ((∑ s ∈ Finset.range (t.val + 1), f s : ℝ) : EReal) := by
  obtain rfl : v = fun _ => 0 := funext hv
  refine (windows_host _ _ _ _ _ _ _ _ _).trans ?_
  exact running (A := 16) (B := 5) (N := 2048) (M := 2047) (by norm_num) x reduceWindows_S16x5x2048_S16x5x2048_w1s1p0_0_w1s1p0_0_w2048s1p2047_0 b a f hx t

end Cert.RScatter

end
-- ==== Proof.RPlace.lean ====
/- After the loop the reference scatters its results by trial number; with the trials numbered in order that puts each
   result at its own level, row and time. -/
module

public import proofs.«01_k».proof.Proof.RScatter

@[expose] public section

set_option maxRecDepth 16384

noncomputable section

namespace Cert.RPlace

open Idealize.ShloMosaic Idealize.SL.Sem Cert.ReferenceIdeal Cert.ReferenceIdeal.Gen Cert.ReferenceIdeal.Value
open Cert.Level Cert.Head Cert.Kept Cert.RScatter
open Idealize.ShloMosaic.TcCoe

variable (V : Valuation τ sig (Elt Ideal))

abbrev V1 : Valuation τ sig (Elt Ideal) := StableHlo.after hostOps0_1 V
abbrev V2 : Valuation τ sig (Elt Ideal) := StableHlo.after hostOps0_2 (V1 V)
abbrev V3 : Valuation τ sig (Elt Ideal) := StableHlo.after hostOps0_3 (V2 V)
abbrev V4 : Valuation τ sig (Elt Ideal) := StableHlo.after hostOps0_4 (V3 V)
abbrev V5 : Valuation τ sig (Elt Ideal) := StableHlo.after hostOps0_5 (V4 V)

theorem read_v93 (n : Fin 80) (t : Fin 2048) (q : Fin 2) :
    V1 V (Proc.devRef .tc main_v93) (ix3 n t q) = V (Proc.devRef .tc main_v92_6) (ix3 t n q) := by
  unfold V1
  after_reads_simp
  pointwise

theorem read_v100 (n : Fin 80) (t : Fin 2048) : V1 V (Proc.devRef .tc main_v100) (ix2 n t)
    = IntOp.addi (V (Proc.devRef .tc main_v13) (ix2 n t)) (IntOp.muli (IntOp.muli (V (Proc.devRef .tc main_v2) (ix1 n)) 16#32) 2048#32) := by
  unfold V1
  after_reads_simp
  pointwise

theorem read_v102 (n : Fin 80) (t : Fin 2048) : V1 V (Proc.devRef .tc main_v102) (ix2 n t)
    = IntOp.cmpi .eq (V (Proc.devRef .tc main_v13) (ix2 n t)) 4294967295#32 := by
  unfold V1
  after_reads_simp
  pointwise

theorem read_v103 (n : Fin 80) (t : Fin 2048) (h : V1 V (Proc.devRef .tc main_v102) (ix2 n t) ≠ 1#1) :
    V2 V (Proc.devRef .tc main_v103) (ix2 n t) = V1 V (Proc.devRef .tc main_v100) (ix2 n t) := by
  unfold V2
  obtain ⟨W, hW⟩ : ∃ W, W = V1 V := ⟨_, rfl⟩
  rw [← hW] at h ⊢
  after_reads_simp
  simp only [id]
  exact if_neg h

/-- The position of a row and a time in row-major order. -/
def slot (n : Fin 80) (t : Fin 2048) : Fin 163840 := ⟨n.val * 2048 + t.val, by omega⟩

theorem flat {α : Type} (x : S80x2048.Idx → α) (n : Fin 80) (t : Fin 2048) :
    shapeCast S163840 x shapeCasts_S80x2048_S163840 (ix1 (slot n t)) = x (ix2 n t) := by
  refine shapeCast_apply _ _ _ _ ?_
  rw [Shape.rowMajor_val_two, Shape.rowMajor_val_one]
  rfl

theorem unflat {α : Type} (x : S163840.Idx → α) (a : Fin 5) (b : Fin 16) (t : Fin 2048) :
    shapeCast S5x16x2048 x shapeCasts_S163840_S5x16x2048 (ix3 a b t) = x (ix1 (slot (row a b) t)) := by
  refine shapeCast_apply _ _ _ _ ?_
  rw [Shape.rowMajor_val_three, Shape.rowMajor_val_one]
  rfl

theorem read_v104 (n : Fin 80) (t : Fin 2048) :
    V3 V (Proc.devRef .tc main_v104) (ix1 (slot n t)) = V2 V (Proc.devRef .tc main_v103) (ix2 n t) := by
  unfold V3
  obtain ⟨W, hW⟩ : ∃ W, W = V2 V := ⟨_, rfl⟩
  rw [← hW]
  after_reads_simp
  exact flat _ n t

theorem read_v106 (j : Fin 163840) :
    V3 V (Proc.devRef .tc main_v106) (ix1 j) = IntOp.cmpi .sgt (V3 V (Proc.devRef .tc main_v104) (ix1 j)) 4294967295#32 := by
  unfold V3
  obtain ⟨W, hW⟩ : ∃ W, W = V2 V := ⟨_, rfl⟩
  rw [← hW]
  after_reads_simp
  pointwise

theorem read_v107 (j : Fin 163840) (h : V3 V (Proc.devRef .tc main_v106) (ix1 j) = 1#1) :
    V4 V (Proc.devRef .tc main_v107) (ix1 j) = V3 V (Proc.devRef .tc main_v104) (ix1 j) := by
  unfold V4
  obtain ⟨W, hW⟩ : ∃ W, W = V3 V := ⟨_, rfl⟩
  rw [← hW] at h ⊢
  after_reads_simp
  simp only [id]
  exact if_pos h

theorem keep_v93 : V4 V (Proc.devRef .tc main_v93) = V1 V (Proc.devRef .tc main_v93) := by
  rw [V4, StableHlo.after_of_writes_sub _ _ writes4 (by decide +kernel), V3, StableHlo.after_of_writes_sub _ _ writes3 (by decide +kernel), V2,
    StableHlo.after_of_writes_sub _ _ writes2 (by decide +kernel)]

theorem keep_arg4 : V4 V (Proc.devRef .tc main_arg4) = V (Proc.devRef .tc main_arg4) := by
  rw [V4, StableHlo.after_of_writes_sub _ _ writes4 (by decide +kernel), V3, StableHlo.after_of_writes_sub _ _ writes3 (by decide +kernel), V2,
    StableHlo.after_of_writes_sub _ _ writes2 (by decide +kernel), V1, StableHlo.after_of_writes_sub _ _ writes1 (by decide +kernel)]

/-- The levels and the trials, numbered in order. -/
structure Numbered : Prop where
  level : ∀ n : Fin 80, V (Proc.devRef .tc main_v2) (ix1 n) = BitVec.ofNat 32 (lvlOf n).val
  trial : ∀ (n : Fin 80) (t : Fin 2048), V (Proc.devRef .tc main_v13) (ix2 n t) = BitVec.ofNat 32 ((rowOf n).val * 2048 + t.val)

theorem slot_word (n : Fin 80) (t : Fin 2048) :
    IntOp.addi (BitVec.ofNat 32 ((rowOf n).val * 2048 + t.val)) (IntOp.muli (IntOp.muli (BitVec.ofNat 32 (lvlOf n).val) 16#32) 2048#32)
      = BitVec.ofNat 32 (slot n t).val := by
  have hn : (lvlOf n).val * 16 + (rowOf n).val = n.val := congrArg Fin.val (row_of n)
  show BitVec.ofNat 32 _ + BitVec.ofNat 32 _ * BitVec.ofNat 32 16 * BitVec.ofNat 32 2048 = BitVec.ofNat 32 (n.val * 2048 + t.val)
  rw [← BitVec.ofNat_mul, ← BitVec.ofNat_mul, ← BitVec.ofNat_add]
  congr 1
  rw [← hn]
  ring

variable {V} (H : Numbered V)
include H

theorem trial_ne (n : Fin 80) (t : Fin 2048) : V1 V (Proc.devRef .tc main_v102) (ix2 n t) ≠ 1#1 := by
  rw [read_v102, H.trial]
  intro h
  have h1 := IntOp.cmpi_eq.mp h
  have h2 := congrArg BitVec.toNat h1
  rw [BitVec.toNat_ofNat] at h2
  have := (rowOf n).isLt
  have := t.isLt
  change _ = 4294967295 at h2
  omega

theorem index (n : Fin 80) (t : Fin 2048) : V4 V (Proc.devRef .tc main_v107) (ix1 (slot n t)) = BitVec.ofNat 32 (slot n t).val := by
  have e : V3 V (Proc.devRef .tc main_v104) (ix1 (slot n t)) = BitVec.ofNat 32 (slot n t).val := by
    rw [read_v104, read_v103 V n t (trial_ne H n t), read_v100, H.trial, H.level, slot_word]
  rw [read_v107, e]
  rw [read_v106, e]
  refine IntOp.cmpi_sgt.mpr ?_
  have hs : (slot n t).val < 2 ^ 31 := lt_trans (slot n t).isLt (by decide)
  rw [toInt_ofNat_of_lt hs]
  exact lt_of_lt_of_le (show (4294967295#32).toInt < 0 by decide) (Int.natCast_nonneg _)

theorem index' (j : Fin 163840) : V4 V (Proc.devRef .tc main_v107) (ix1 j) = BitVec.ofNat 32 j.val := by
  have e : j = slot ⟨j.val / 2048, by omega⟩ ⟨j.val % 2048, by omega⟩ :=
    Fin.ext (show j.val = j.val / 2048 * 2048 + j.val % 2048 by omega)
  rw [e]
  exact index H _ _

/-- The indices of the scatters. -/
theorem wrapped (j : Fin 163840) :
    (broadcastInDim S163840x1 ![0] bcast_S163840_S163840x1_0 (select (cmpi .slt (V4 V (Proc.devRef .tc main_v107)) (broadcastInDim S163840 ![] bcast_S_S163840 (constantI S_ 32 0#32)))
      (addi (V4 V (Proc.devRef .tc main_v107)) (broadcastInDim S163840 ![] bcast_S_S163840 (constantI S_ 32 163841#32))) (V4 V (Proc.devRef .tc main_v107)))) (ix2 j 0)
      = BitVec.ofNat 32 j.val := by
  have e := index' H j
  obtain ⟨x, hx⟩ : ∃ x, x = V4 V (Proc.devRef .tc main_v107) := ⟨_, rfl⟩
  rw [← hx] at e ⊢
  pointwise
  refine (if_neg ?_).trans e
  intro h
  have h1 := IntOp.cmpi_slt.mp ((congrArg (fun y => IntOp.cmpi .slt y 0#32) e).symm.trans h)
  rw [toInt_ofNat_of_lt (by omega)] at h1
  have : (0#32).toInt = 0 := by decide
  omega

theorem read_v118 (n : Fin 80) (t : Fin 2048) : V5 V (Proc.devRef .tc main_v118) (ix1 (⟨(slot n t).val, by omega⟩ : Fin 163841))
    = V4 V (Proc.devRef .tc main_v93) (ix3 n t 0) := by
  have w := wrapped H
  obtain ⟨W, hW⟩ : ∃ W, W = V4 V := ⟨_, rfl⟩
  rw [V5]
  rw [← hW] at w ⊢
  after_reads_simp
  refine (put_back _ _ _ w (slot n t)).trans ?_
  refine (flat _ n t).trans ?_
  pointwise

theorem read_v130 (n : Fin 80) (t : Fin 2048) : V5 V (Proc.devRef .tc main_v130) (ix1 (⟨(slot n t).val, by omega⟩ : Fin 163841))
    = V4 V (Proc.devRef .tc main_v93) (ix3 n t 1) := by
  have w := wrapped H
  obtain ⟨W, hW⟩ : ∃ W, W = V4 V := ⟨_, rfl⟩
  rw [V5]
  rw [← hW] at w ⊢
  after_reads_simp
  refine (put_back _ _ _ w (slot n t)).trans ?_
  refine (flat _ n t).trans ?_
  pointwise

omit H in
/-- A flat array of levels, rows and times, brought back to three axes. -/
theorem unpack {α : Type} (z : S163841.Idx → α) (a : Fin 5) (b : Fin 16) (t : Fin 2048) :
    broadcastInDim S5x16x2048x1 ![0, 1, 2] bcast_S5x16x2048_S5x16x2048x1_0_1_2 (shapeCast S5x16x2048 (extractStridedSlice S163840 ![0] z slices_S163841_S163840_0) shapeCasts_S163840_S5x16x2048) (ix4 a b t 0)
      = z (ix1 (⟨(slot (row a b) t).val, by omega⟩ : Fin 163841)) := by
  have e := unflat (extractStridedSlice S163840 ![0] z slices_S163841_S163840_0) a b t
  obtain ⟨w, hw⟩ : ∃ w, w = shapeCast S5x16x2048 (extractStridedSlice S163840 ![0] z slices_S163841_S163840_0) shapeCasts_S163840_S5x16x2048 := ⟨_, rfl⟩
  rw [← hw] at e ⊢
  pointwise
  refine e.trans ?_
  pointwise

omit H in
theorem read_v134 (a : Fin 5) (b : Fin 16) (t : Fin 2048) : V5 V (Proc.devRef .tc main_v134) (ix4 a b t 0)
    = V5 V (Proc.devRef .tc main_v118) (ix1 (⟨(slot (row a b) t).val, by omega⟩ : Fin 163841)) := by
  obtain ⟨W, hW⟩ : ∃ W, W = V4 V := ⟨_, rfl⟩
  rw [V5]
  rw [← hW]
  after_reads_simp
  exact unpack _ a b t

omit H in
theorem read_v137_0 (a : Fin 5) (b : Fin 16) (t : Fin 2048) : V5 V (Proc.devRef .tc main_v137) (ix4 b a t 0)
    = V5 V (Proc.devRef .tc main_v134) (ix4 a b t 0) := by
  obtain ⟨W, hW⟩ : ∃ W, W = V4 V := ⟨_, rfl⟩
  rw [V5]
  rw [← hW]
  obtain ⟨r, hr⟩ : ∃ r, r = StableHlo.after hostOps0_5 W (Proc.devRef .tc main_v134) (ix4 a b t 0) := ⟨_, rfl⟩
  rw [← hr]
  after_reads_simp
  pointwise
  after_reads_simp
  rw [hr]
  after_reads_simp

omit H in
theorem read_v135 (a : Fin 5) (b : Fin 16) (t : Fin 2048) : V5 V (Proc.devRef .tc main_v135) (ix4 a b t 0)
    = V5 V (Proc.devRef .tc main_v130) (ix1 (⟨(slot (row a b) t).val, by omega⟩ : Fin 163841)) := by
  obtain ⟨W, hW⟩ : ∃ W, W = V4 V := ⟨_, rfl⟩
  rw [V5]
  rw [← hW]
  after_reads_simp
  exact unpack _ a b t

omit H in
theorem read_v137_1 (a : Fin 5) (b : Fin 16) (t : Fin 2048) : V5 V (Proc.devRef .tc main_v137) (ix4 b a t 1)
    = V5 V (Proc.devRef .tc main_v135) (ix4 a b t 0) := by
  obtain ⟨W, hW⟩ : ∃ W, W = V4 V := ⟨_, rfl⟩
  rw [V5]
  rw [← hW]
  obtain ⟨r, hr⟩ : ∃ r, r = StableHlo.after hostOps0_5 W (Proc.devRef .tc main_v135) (ix4 a b t 0) := ⟨_, rfl⟩
  rw [← hr]
  after_reads_simp
  pointwise
  after_reads_simp
  rw [hr]
  after_reads_simp

/-- The results the loop wrote, by row, level and time. -/
theorem placed (a : Fin 5) (b : Fin 16) (t : Fin 2048) (q : Fin 2) :
    V5 V (Proc.devRef .tc main_v137) (ix4 b a t q) = V (Proc.devRef .tc main_v92_6) (ix3 t (row a b) q) := by
  fin_cases q
  · exact (read_v137_0 a b t).trans ((read_v134 a b t).trans ((read_v118 H _ t).trans ((congrFun (keep_v93 V) _).trans (read_v93 V _ t 0))))
  · exact (read_v137_1 a b t).trans ((read_v135 a b t).trans ((read_v130 H _ t).trans ((congrFun (keep_v93 V) _).trans (read_v93 V _ t 1))))

omit H in
theorem target (a : Fin 5) (b : Fin 16) (t : Fin 2048) :
    V5 V (Proc.devRef .tc main_v139) (ix4 b a t 0) = V (Proc.devRef .tc main_arg4) (ix2 b t) := by
  refine Eq.trans ?_ (congrFun (keep_arg4 V) _)
  obtain ⟨W, hW⟩ : ∃ W, W = V4 V := ⟨_, rfl⟩
  rw [V5]
  rw [← hW]
  after_reads_simp
  pointwise

end Cert.RPlace

end
-- ==== Proof.RPost.lean ====
/- After placing its results, the reference sums those observed, normalises the five levels by these sums, and mixes
   the levels' results. -/
module

public import proofs.«01_k».proof.Proof.RPlace

@[expose] public section

set_option maxRecDepth 16384

noncomputable section

open Classical

namespace Cert.RPost

open Idealize.ShloMosaic Idealize.SL.Sem Cert.ReferenceIdeal Cert.ReferenceIdeal.Gen Cert.ReferenceIdeal.Value
open Cert.Level Cert.Head Cert.Kept Cert.RScatter Cert.RPlace Cert.Chain Cert.Spec Cert.Take
open Idealize.ShloMosaic.TcCoe

theorem reduces_d4 : S16x5x2048x1x1.Reduces [4] S16x5x2048x1 := by decide
theorem reduces_S16x5x2048 : S16x5x2048.Reduces [1] S16x2048 := by decide
theorem reduces_S16x5x2048x2 : S16x5x2048x2.Reduces [1] S16x2048x2 := by decide

instance : Std.Commutative (IntOp.andi : BitVec 1 → BitVec 1 → BitVec 1) := ⟨fun x y => BitVec.and_comm x y⟩
instance : Std.Associative (IntOp.andi : BitVec 1 → BitVec 1 → BitVec 1) := ⟨fun x y z => BitVec.and_assoc x y z⟩

/-- A conjunction over an axis of size one. -/
theorem all_one (x : IVec S16x5x2048x1x1 1) (b : Fin 16) (a : Fin 5) (t : Fin 2048) (h : x (ix5 b a t 0 0) = 1#1) :
    Host.reduce IntOp.andi x (constantI S_ 1 1#1) reducesTo_S16x5x2048x1x1_S16x5x2048x1_d4 h_S_ (ix4 b a t 0) = 1#1 := by
  refine (Host.reduce_eq_fold_single IntOp.andi x _ _ reduces_d4 _ _).trans ?_
  have e : ∀ k : Fin 1, x (reduces_d4.lift (ix4 b a t 0) k) = 1#1 := by
    intro k
    rw [← h]
    refine congrArg x ?_
    funext c
    fin_cases c <;> first | rfl | exact Subsingleton.elim (α := Fin 1) _ _
  refine (Finset.fold_congr (g := fun _ => 1#1) fun k _ => e k).trans ?_
  show (Finset.univ : Finset (Fin 1)).fold IntOp.andi 1#1 (fun _ => 1#1) = 1#1
  rw [show (Finset.univ : Finset (Fin 1)) = {0} from rfl, Finset.fold_singleton]
  decide

/-- A position of the last axis, wrapped. -/
theorem position (w : IVec S16x5x2048x1 32) (b : Fin 16) (a : Fin 5) (t : Fin 2048) (h : w (ix4 b a t 0) = 0#32 ∨ w (ix4 b a t 0) = 1#32) :
    shapeCast S16x5x2048x1x1 (select (cmpi .slt w (broadcastInDim S16x5x2048x1 ![] bcast_S_S16x5x2048x1 (constantI S_ 32 0#32)))
      (addi w (broadcastInDim S16x5x2048x1 ![] bcast_S_S16x5x2048x1 (constantI S_ 32 2#32))) w) shapeCasts_S16x5x2048x1_S16x5x2048x1x1 (ix5 b a t 0 0)
      = w (ix4 b a t 0) := by
  pointwise
  rcases h with h | h <;> rw [h] <;> decide

theorem chosen {s : Shape} {α : Type} (m : IVec s 1) (x y : s.Idx → α) (j : s.Idx) (h : m j = 1#1) : select m x y j = x j := if_pos h

/-- The entry of the last axis that a position names, the position lying within the axis. -/
theorem taken (x : FVec Ideal S16x5x2048x2 .f32) (i : IVec S16x5x2048x1x1 32) (b : Fin 16) (a : Fin 5) (t : Fin 2048)
    (h : i (ix5 b a t 0 0) = 0#32 ∨ i (ix5 b a t 0 0) = 1#32) :
    select (Host.reduce IntOp.andi (andi (cmpi .sge i (broadcastInDim S16x5x2048x1x1 ![] bcast_S_S16x5x2048x1x1 (constantI S_ 32 0#32)))
        (cmpi .sle i (broadcastInDim S16x5x2048x1x1 ![0, 1, 2, 3, 4] bcast_S1x1x1x1x1_S16x5x2048x1x1_0_1_2_3_4 (broadcastInDim S1x1x1x1x1 ![4] bcast_S1_S1x1x1x1x1_4 (constantI S1 32 1#32)))))
        (constantI S_ 1 1#1) reducesTo_S16x5x2048x1x1_S16x5x2048x1_d4 h_S_)
      (Host.gather gather_S16x5x2048x2_S16x5x2048x1x1_S16x5x2048x1_n_3_012_012_3_4_1111 x i)
      (broadcastInDim S16x5x2048x1 ![] bcast_S_S16x5x2048x1 (constant S_ .f32 0x7FC00000#32)) (ix4 b a t 0)
      = if i (ix5 b a t 0 0) = 1#32 then x (ix4 b a t 1) else x (ix4 b a t 0) := by
  refine (chosen _ _ _ _ (all_one _ b a t ?_)).trans ?_
  · pointwise
    rcases h with h | h <;> rw [h] <;> decide
  · rw [take_last]
    rcases h with h | h <;> rw [h]
    · rw [if_neg (by decide)]; rfl
    · rw [if_pos rfl]; rfl

variable (V : Valuation τ sig (Elt Ideal))

abbrev V6 : Valuation τ sig (Elt Ideal) := StableHlo.after hostOps0_6 (V5 V)
abbrev V7 : Valuation τ sig (Elt Ideal) := StableHlo.after hostOps0_7 (V6 V)
abbrev V8 : Valuation τ sig (Elt Ideal) := StableHlo.after hostOps0_8 (V7 V)
abbrev V9 : Valuation τ sig (Elt Ideal) := StableHlo.after hostOps0_9 (V8 V)
abbrev V10 : Valuation τ sig (Elt Ideal) := StableHlo.after hostOps0_10 (V9 V)
abbrev V11 : Valuation τ sig (Elt Ideal) := StableHlo.after hostOps0_11 (V10 V)

theorem read_v140 (b : Fin 16) (a : Fin 5) (t : Fin 2048)
    (h : V5 V (Proc.devRef .tc main_v139) (ix4 b a t 0) = 0#32 ∨ V5 V (Proc.devRef .tc main_v139) (ix4 b a t 0) = 1#32) :
    V6 V (Proc.devRef .tc main_v140) (ix4 b a t 0)
      = if V5 V (Proc.devRef .tc main_v139) (ix4 b a t 0) = 1#32 then V5 V (Proc.devRef .tc main_v137) (ix4 b a t 1) else V5 V (Proc.devRef .tc main_v137) (ix4 b a t 0) := by
  rw [V6]
  obtain ⟨W, hW⟩ : ∃ W, W = V5 V := ⟨_, rfl⟩
  rw [← hW] at h ⊢
  have e := position _ b a t h
  rw [← e] at h
  after_reads_simp
  simp only [StableHlo.TRef.ofBuf_toBuf]
  simp only [StableHlo.TRef.toBuf, StableHlo.TRef.ofBuf, cast_eq]
  refine (taken _ _ b a t h).trans ?_
  rw [e]

theorem read_v141 (b : Fin 16) (a : Fin 5) (t : Fin 2048) :
    V7 V (Proc.devRef .tc main_v141) (ix3 b a t) = V6 V (Proc.devRef .tc main_v140) (ix4 b a t 0) := by
  rw [V7]
  obtain ⟨W, hW⟩ : ∃ W, W = V6 V := ⟨_, rfl⟩
  rw [← hW]
  after_reads_simp
  pointwise

instance : Std.Commutative (FloatOps.maximumf : Ideal .f32 → Ideal .f32 → Ideal .f32) := ⟨fun x y => max_comm (α := EReal) x y⟩
instance : Std.Associative (FloatOps.maximumf : Ideal .f32 → Ideal .f32 → Ideal .f32) := ⟨fun x y z => max_assoc (α := EReal) x y z⟩

variable {V}

theorem lift3 (b : Fin 16) (t : Fin 2048) (k : Fin 5) : reduces_S16x5x2048.lift (ix2 b t) k = ix3 b k t := by
  funext c; fin_cases c <;> rfl

theorem lift4 (b : Fin 16) (t : Fin 2048) (q : Fin 2) (k : Fin 5) : reduces_S16x5x2048x2.lift (ix3 b t q) k = ix4 b k t q := by
  funext c; fin_cases c <;> rfl

/-- The largest of five real numbers. -/
theorem largest (x : FVec Ideal S16x5x2048 .f32) (b : Fin 16) (t : Fin 2048) (f : Fin 5 → ℝ) (hx : ∀ a, x (ix3 b a t) = ((f a : ℝ) : EReal)) :
    ∃ M : ℝ, Host.reduce FloatOps.maximumf x (constant S_ .f32 0xFF800000#32) reducesTo_S16x5x2048_S16x2048_d1 h_S_ (ix2 b t) = (M : EReal) := by
  obtain ⟨r, hr⟩ := fold_max_real (Finset.univ : Finset (Fin 5)) ⟨0, Finset.mem_univ _⟩ f
  refine ⟨r, ?_⟩
  refine (Host.reduce_eq_fold_single FloatOps.maximumf x _ _ reduces_S16x5x2048 _ _).trans ?_
  rw [← hr, ← ninf_val]
  refine Finset.fold_congr fun k _ => ?_
  exact (congrArg x (lift3 b t k)).trans (hx k)

/-- The sum of five real numbers. -/
theorem total3 (x : FVec Ideal S16x5x2048 .f32) (b : Fin 16) (t : Fin 2048) (f : Fin 5 → ℝ) (hx : ∀ a, x (ix3 b a t) = ((f a : ℝ) : EReal)) :
    Host.reduceAdd x (constant S_ .f32 0x00000000#32) reducesTo_S16x5x2048_S16x2048_d1 h_S_ (ix2 b t) = ((∑ a, f a : ℝ) : EReal) := by
  refine (Ideal.hostReduceAdd_single reducesTo_S16x5x2048_S16x2048_d1 reduces_S16x5x2048 x _ _).trans ?_
  have s : ∑ k : Fin 5, x (reduces_S16x5x2048.lift (ix2 b t) k) = ((∑ a, f a : ℝ) : EReal) := by
    rw [← coe_sum]
    exact Finset.sum_congr rfl fun k _ => (congrArg x (lift3 b t k)).trans (hx k)
  refine (congrArg₂ (fun u v : EReal => u + v) (Ideal.ofBits_zero_f32) s).trans ?_
  exact zero_add _

/-- The sum of five real numbers, for each of the two results. -/
theorem total4 (x : FVec Ideal S16x5x2048x2 .f32) (b : Fin 16) (t : Fin 2048) (q : Fin 2) (f : Fin 5 → ℝ) (hx : ∀ a, x (ix4 b a t q) = ((f a : ℝ) : EReal)) :
    Host.reduceAdd x (constant S_ .f32 0x00000000#32) reducesTo_S16x5x2048x2_S16x2048x2_d1 h_S_ (ix3 b t q) = ((∑ a, f a : ℝ) : EReal) := by
  refine (Ideal.hostReduceAdd_single reducesTo_S16x5x2048x2_S16x2048x2_d1 reduces_S16x5x2048x2 x _ _).trans ?_
  have s : ∑ k : Fin 5, x (reduces_S16x5x2048x2.lift (ix3 b t q) k) = ((∑ a, f a : ℝ) : EReal) := by
    rw [← coe_sum]
    exact Finset.sum_congr rfl fun k _ => (congrArg x (lift4 b t q k)).trans (hx k)
  refine (congrArg₂ (fun u v : EReal => u + v) (Ideal.ofBits_zero_f32) s).trans ?_
  exact zero_add _

/-- A row and time's numbers with one number of that row and time taken off. -/
def less (x : FVec Ideal S16x5x2048 .f32) (y : FVec Ideal S16x2048 .f32) : FVec Ideal S16x5x2048 .f32 :=
  subf x (broadcastInDim S16x5x2048 ![0, 1, 2] bcast_S16x1x2048_S16x5x2048_0_1_2 (broadcastInDim S16x1x2048 ![0, 2] bcast_S16x2048_S16x1x2048_0_2 y))

theorem less_apply (x : FVec Ideal S16x5x2048 .f32) (y : FVec Ideal S16x2048 .f32) (b : Fin 16) (a : Fin 5) (t : Fin 2048) {u v : ℝ}
    (hx : x (ix3 b a t) = (u : EReal)) (hy : y (ix2 b t) = (v : EReal)) : less x y (ix3 b a t) = ((u - v : ℝ) : EReal) := by
  have e : less x y (ix3 b a t) = x (ix3 b a t) - y (ix2 b t) := by
    unfold less
    pointwise
  rw [e, hx, hy, ← EReal.coe_sub]

/-- The five levels' numbers, less the logarithm of the sum of their exponentials. -/
def normal (x : FVec Ideal S16x5x2048 .f32) (y : FVec Ideal S16x2048 .f32) : FVec Ideal S16x5x2048 .f32 :=
  subf (less x y) (broadcastInDim S16x5x2048 ![0, 1, 2] bcast_S16x1x2048_S16x5x2048_0_1_2 (Host.log (broadcastInDim S16x1x2048 ![0, 2] bcast_S16x2048_S16x1x2048_0_2 (Host.reduceAdd (Host.exp (less x y)) (constant S_ .f32 0x00000000#32) reducesTo_S16x5x2048_S16x2048_d1 h_S_))))

theorem normal_apply (x : FVec Ideal S16x5x2048 .f32) (y : FVec Ideal S16x2048 .f32) (b : Fin 16) (t : Fin 2048) (f : Fin 5 → ℝ) (M : ℝ)
    (hx : ∀ a, x (ix3 b a t) = ((f a : ℝ) : EReal)) (hy : y (ix2 b t) = (M : EReal)) (a : Fin 5) :
    normal x y (ix3 b a t) = ((f a - Real.log (∑ k, Real.exp (f k)) : ℝ) : EReal) := by
  have hl : ∀ k, less x y (ix3 b k t) = ((f k - M : ℝ) : EReal) := fun k => less_apply x y b k t (hx k) hy
  have hs := total3 (Host.exp (less x y)) b t (fun k => Real.exp (f k - M)) (fun k => (congrArg Ideal.exp (hl k)).trans (Ideal.exp_coe _))
  unfold normal
  obtain ⟨z, hz⟩ : ∃ z, z = less x y := ⟨_, rfl⟩
  rw [← hz] at hl hs ⊢
  obtain ⟨w, hw⟩ : ∃ w, w = Host.reduceAdd (Host.exp z) (constant S_ .f32 0x00000000#32) reducesTo_S16x5x2048_S16x2048_d1 h_S_ := ⟨_, rfl⟩
  rw [← hw] at hs ⊢
  have e : subf z (broadcastInDim S16x5x2048 ![0, 1, 2] bcast_S16x1x2048_S16x5x2048_0_1_2 (Host.log (broadcastInDim S16x1x2048 ![0, 2] bcast_S16x2048_S16x1x2048_0_2 w))) (ix3 b a t)
      = z (ix3 b a t) - Ideal.log (w (ix2 b t)) := by
    pointwise
  rw [e, hl, hs, log_real (sum_exp_pos _), ← EReal.coe_sub]
  have := log_sum_shift f M
  congr 1
  linarith

/-- The largest number once more against the least of all. -/
theorem largest' (y : FVec Ideal S16x2048 .f32) (b : Fin 16) (t : Fin 2048) {M : ℝ} (hy : y (ix2 b t) = (M : EReal)) :
    maximumf (broadcastInDim S16x2048 ![] bcast_S_S16x2048 (constant S_ .f32 0xFF800000#32)) y (ix2 b t) = (M : EReal) := by
  have e : maximumf (broadcastInDim S16x2048 ![] bcast_S_S16x2048 (constant S_ .f32 0xFF800000#32)) y (ix2 b t)
      = max (Scalar.ofBits .f32 0xFF800000#32 : Ideal .f32) (y (ix2 b t)) := by
    pointwise
  rw [e, hy]
  refine (congrArg (fun u : EReal => max u (M : EReal)) ninf_val).trans ?_
  exact max_eq_right bot_le

/-- The levels' results mixed. -/
theorem mixed (x : FVec Ideal S16x5x2048x2 .f32) (y : FVec Ideal S16x5x2048 .f32) (b : Fin 16) (t : Fin 2048) (q : Fin 2) (f g : Fin 5 → ℝ)
    (hx : ∀ a, x (ix4 b a t q) = ((f a : ℝ) : EReal)) (hy : ∀ a, y (ix3 b a t) = ((g a : ℝ) : EReal)) :
    Host.log (Host.reduceAdd (Host.exp (addf x (broadcastInDim S16x5x2048x2 ![0, 1, 2, 3] bcast_S16x5x2048x1_S16x5x2048x2_0_1_2_3 (broadcastInDim S16x5x2048x1 ![0, 1, 2] bcast_S16x5x2048_S16x5x2048x1_0_1_2 y))))
      (constant S_ .f32 0x00000000#32) reducesTo_S16x5x2048x2_S16x2048x2_d1 h_S_) (ix3 b t q)
      = ((Real.log (∑ a, Real.exp (f a + g a)) : ℝ) : EReal) := by
  have hs := total4 (Host.exp (addf x (broadcastInDim S16x5x2048x2 ![0, 1, 2, 3] bcast_S16x5x2048x1_S16x5x2048x2_0_1_2_3 (broadcastInDim S16x5x2048x1 ![0, 1, 2] bcast_S16x5x2048_S16x5x2048x1_0_1_2 y))))
    b t q (fun a => Real.exp (f a + g a)) (fun a => by
      have e : Host.exp (addf x (broadcastInDim S16x5x2048x2 ![0, 1, 2, 3] bcast_S16x5x2048x1_S16x5x2048x2_0_1_2_3 (broadcastInDim S16x5x2048x1 ![0, 1, 2] bcast_S16x5x2048_S16x5x2048x1_0_1_2 y))) (ix4 b a t q)
          = Ideal.exp (x (ix4 b a t q) + y (ix3 b a t)) := by
        pointwise
      rw [e, hx, hy, ← EReal.coe_add, Ideal.exp_coe])
  exact (congrArg Ideal.log hs).trans (log_real (sum_exp_pos _))

variable (V)

theorem read_v144 (b : Fin 16) (t : Fin 2048) (f : Fin 5 → ℝ) (hx : ∀ a, V9 V (Proc.devRef .tc main_v143) (ix3 b a t) = ((f a : ℝ) : EReal)) (a : Fin 5) :
    V10 V (Proc.devRef .tc main_v144) (ix3 b a t) = ((f a - Real.log (∑ k, Real.exp (f k)) : ℝ) : EReal) := by
  rw [V10]
  obtain ⟨W, hW⟩ : ∃ W, W = V9 V := ⟨_, rfl⟩
  rw [← hW] at hx ⊢
  obtain ⟨M, hM⟩ := largest _ b t f hx
  after_reads_simp
  simp only [StableHlo.TRef.ofBuf_toBuf]
  simp only [StableHlo.TRef.toBuf, StableHlo.TRef.ofBuf, cast_eq]
  exact normal_apply _ _ b t f M hx (largest' _ b t hM) a

theorem read_v150 (b : Fin 16) (t : Fin 2048) (q : Fin 2) (f g : Fin 5 → ℝ) (hx : ∀ a, V10 V (Proc.devRef .tc main_v137) (ix4 b a t q) = ((f a : ℝ) : EReal))
    (hy : ∀ a, V10 V (Proc.devRef .tc main_v144) (ix3 b a t) = ((g a : ℝ) : EReal)) :
    V11 V (Proc.devRef .tc main_v150) (ix3 b t q) = ((Real.log (∑ a, Real.exp (f a + g a)) : ℝ) : EReal) := by
  rw [V11]
  obtain ⟨W, hW⟩ : ∃ W, W = V10 V := ⟨_, rfl⟩
  rw [← hW] at hx hy ⊢
  after_reads_simp
  exact mixed _ _ b t q f g hx hy

theorem read_v142 (b : Fin 16) (a : Fin 5) (f : ℕ → ℝ) (hx : ∀ t : Fin 2048, V7 V (Proc.devRef .tc main_v141) (ix3 b a t) = ((f t.val : ℝ) : EReal)) (t : Fin 2048) :
    V8 V (Proc.devRef .tc main_v142) (ix3 b a t) = ((∑ s ∈ Finset.range (t.val + 1), f s : ℝ) : EReal) := by
  rw [V8]
  obtain ⟨W, hW⟩ : ∃ W, W = V7 V := ⟨_, rfl⟩
  rw [← hW] at hx ⊢
  after_reads_simp
  refine cumulative _ _ (fun i => ?_) b a f hx t
  exact Ideal.ofBits_zero_f32

theorem read_v143 (b : Fin 16) (a : Fin 5) (f : ℕ → ℝ) (hx : ∀ t : Fin 2048, V7 V (Proc.devRef .tc main_v141) (ix3 b a t) = ((f t.val : ℝ) : EReal)) (t : Fin 2048) :
    V9 V (Proc.devRef .tc main_v143) (ix3 b a t) = ((∑ s ∈ Finset.range t.val, f s : ℝ) : EReal) := by
  have e1 := read_v142 V b a f hx t
  have e2 : V8 V (Proc.devRef .tc main_v141) (ix3 b a t) = ((f t.val : ℝ) : EReal) := by
    rw [V8, StableHlo.after_of_writes_sub _ _ writes8 (by decide +kernel)]
    exact hx t
  rw [V9]
  obtain ⟨W, hW⟩ : ∃ W, W = V8 V := ⟨_, rfl⟩
  rw [← hW] at e1 e2 ⊢
  after_reads_simp
  refine (congrArg₂ (fun u v : EReal => u - v) e1 e2).trans ?_
  rw [← EReal.coe_sub, Finset.sum_range_succ, add_sub_cancel_right]

theorem keep_v137 : V10 V (Proc.devRef .tc main_v137) = V5 V (Proc.devRef .tc main_v137) := by
  rw [V10, StableHlo.after_of_writes_sub _ _ writes10 (by decide +kernel), V9, StableHlo.after_of_writes_sub _ _ writes9 (by decide +kernel), V8,
    StableHlo.after_of_writes_sub _ _ writes8 (by decide +kernel), V7, StableHlo.after_of_writes_sub _ _ writes7 (by decide +kernel), V6,
    StableHlo.after_of_writes_sub _ _ writes6 (by decide +kernel)]

end Cert.RPost

end
-- ==== Proof.RFinal.lean ====
/- The result of the reference. -/
module

public import proofs.«01_k».proof.Proof.RPost
public import proofs.«01_k».proof.Proof.RLoop

@[expose] public section

set_option maxRecDepth 16384

noncomputable section

open Classical

namespace Cert.RFinal

open Idealize.ShloMosaic Idealize.SL.Sem Cert.ReferenceIdeal Cert.ReferenceIdeal.Gen Cert.ReferenceIdeal.Value
open Cert.Level Cert.Head Cert.Kept Cert.RPlace Cert.RPost Cert.Spec Cert.Inputs Cert.RHost
open Idealize.ShloMosaic.TcCoe

variable (m : (ℓ : Loc nD τ sig) → Buf (Elt Ideal) ℓ) (c : Dev nD) (h : Ok (args m c))

/-- The loop's results where the loop ends. -/
theorem exit_res : exit m c (Proc.devRef .tc main_v92_6) = atK m 2048 c (Proc.devRef .tc main_v92_6) :=
  StableHlo.after_of_writes_sub _ _ condOps_writes (by decide +kernel)

theorem exit_tgt (b : Fin 16) (t : Fin 2048) : exit m c (Proc.devRef .tc main_arg4) (ix2 b t) = (args m c).tgt (ix2 b t) := by
  rw [exit_kept m c main_arg4 (by decide +kernel), pre_kept m c main_arg4 (by decide +kernel)]
  rfl

include h

theorem numbered : Numbered (exit m c) where
  level n := by
    rw [exit_kept m c main_v2 (by decide +kernel)]
    exact read_level m c n
  trial n t := by
    rw [exit_kept m c main_v13 (by decide +kernel)]
    exact (read_trial m c n t).trans (h.trial _ _)

theorem wrong_at (b : Fin 16) (a : Fin 5) (t : Fin 2048) : V5 (exit m c) (Proc.devRef .tc main_v137) (ix4 b a t 0)
    = ((Real.log (1 - P (dat (args m c)) (row a b) t.val) : ℝ) : EReal) := by
  rw [placed (numbered m c h), exit_res]
  exact RLoop.wrong m c h 2048 le_rfl _ _ t.isLt

theorem right_at (b : Fin 16) (a : Fin 5) (t : Fin 2048) : V5 (exit m c) (Proc.devRef .tc main_v137) (ix4 b a t 1)
    = ((Real.log (P (dat (args m c)) (row a b) t.val) : ℝ) : EReal) := by
  rw [placed (numbered m c h), exit_res]
  exact RLoop.right m c h 2048 le_rfl _ _ t.isLt

/-- The logarithm of the probability of the target. -/
def seen (D : Data) (n : Fin 80) (s : ℕ) : ℝ := if D.tgt n s then Real.log (P D n s) else Real.log (1 - P D n s)

theorem seen_at (b : Fin 16) (a : Fin 5) (t : Fin 2048) : V7 (exit m c) (Proc.devRef .tc main_v141) (ix3 b a t)
    = ((seen (dat (args m c)) (row a b) t.val : ℝ) : EReal) := by
  have ht : V5 (exit m c) (Proc.devRef .tc main_v139) (ix4 b a t 0) = (args m c).tgt (ix2 b t) := (target a b t).trans (exit_tgt m c b t)
  have hd : (dat (args m c)).tgt (row a b) t.val ↔ (args m c).tgt (ix2 b t) = 1#32 := by
    show (args m c).tgt (ix2 (rowOf (row a b)) (at_ t.val)) = 1#32 ↔ _
    rw [rowOf_row, at_val]
  rw [read_v141, read_v140 _ b a t (by rw [ht]; exact h.tgt b t), ht, wrong_at m c h, right_at m c h]
  unfold seen
  by_cases hq : (args m c).tgt (ix2 b t) = 1#32
  · rw [if_pos hq, if_pos (hd.mpr hq)]
  · rw [if_neg hq, if_neg (fun e => hq (hd.mp e))]

theorem weight_at (b : Fin 16) (t : Fin 2048) (a : Fin 5) : V10 (exit m c) (Proc.devRef .tc main_v144) (ix3 b a t)
    = ((pre (dat (args m c)) (row a b) t.val - Real.log (∑ k, Real.exp (pre (dat (args m c)) (row k b) t.val)) : ℝ) : EReal) :=
  read_v144 (exit m c) b t (fun k => pre (dat (args m c)) (row k b) t.val)
    (fun k => read_v143 (exit m c) b k (fun s => seen (dat (args m c)) (row k b) s) (fun s => seen_at m c h b k s) t) a

theorem out0_at (b : Fin 16) (t : Fin 2048) : V11 (exit m c) (Proc.devRef .tc main_v150) (ix3 b t 0) = ((out0 (dat (args m c)) b t.val : ℝ) : EReal) :=
  read_v150 (exit m c) b t 0 (fun a => Real.log (1 - P (dat (args m c)) (row a b) t.val)) _
    (fun a => (congrFun (keep_v137 _) _).trans (wrong_at m c h b a t)) (fun a => weight_at m c h b t a)

theorem out1_at (b : Fin 16) (t : Fin 2048) : V11 (exit m c) (Proc.devRef .tc main_v150) (ix3 b t 1) = ((out1 (dat (args m c)) b t.val : ℝ) : EReal) :=
  read_v150 (exit m c) b t 1 (fun a => Real.log (P (dat (args m c)) (row a b) t.val)) _
    (fun a => (congrFun (keep_v137 _) _).trans (right_at m c h b a t)) (fun a => weight_at m c h b t a)

theorem final : StableHlo.finalContents condOps preI bodyI postI 2048 m c (Proc.devRef .tc main_v150) = result (dat (args m c)) := by
  have e : StableHlo.finalContents condOps preI bodyI postI 2048 m c (Proc.devRef .tc main_v150) = V11 (exit m c) (Proc.devRef .tc main_v150) := by
    rw [StableHlo.finalContents]
    simp only [StableHlo.afterL_cons, StableHlo.afterL_nil]
  rw [e]
  have key : ∀ (b : Fin 16) (t : Fin 2048) (q : Fin 2),
      V11 (exit m c) (Proc.devRef .tc main_v150) (ix3 b t q) = result (dat (args m c)) (ix3 b t q) := by
    intro b t q
    by_cases hq : q = 0
    · rw [hq]
      exact (out0_at m c h b t).trans (if_pos rfl).symm
    · obtain rfl : q = 1 := by omega
      exact (out1_at m c h b t).trans (if_neg (show ¬(1 : ℕ) = 0 by decide)).symm
  funext j
  have hj : j = ix3 (j 0) (j 1) (j 2) := by funext a; fin_cases a <;> rfl
  rw [hj]
  exact key _ _ _

omit h c in
/-- The reference terminates with that result and its arguments unchanged. -/
theorem run (ρ : Dev nD → PrngReg) (h : ∀ c, Ok (args m c)) :
    θ_run (defs (F := Ideal)) (onTc (τ := τ) (main (F := Ideal))) ⟨m, fun _ => 0, ρ⟩ (fun r => ∀ c : Dev nD,
      r.2.mem ((c.tc : Thread nD τ).loc main_v150) = result (dat (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ hr c => ⟨(hr c).1.trans (final m c (h c)), (hr c).2⟩) (Kept.run m ρ)

end Cert.RFinal

end
-- ==== Proof.Range.lean ====
/- What the precondition says of the arguments, read from its printed form. -/
module

public import proofs.«01_k».proof.Pre_in_range
public import proofs.«01_k».proof.Proof.Inputs
public import Idealize.ShloMosaic.Lib.DynamicIndex

@[expose] public section

set_option maxRecDepth 16384

noncomputable section

namespace Cert.Range

open Idealize.ShloMosaic Cert.Pre_in_range Cert.Inputs

/-- The relations between the shapes that the precondition's operations state. -/
theorem facts : Cert.Pre_in_range.Facts := ⟨by decide, by decide, by decide⟩

variable [Facts]
open Facts

theorem order (b : Fin 16) (t : Fin 2048) :
    addi (muli (iotaInDim S16x2048 32 0) (broadcastInDim S16x2048 ![] bcast_S_S16x2048 (constantI S_ 32 2048#32))) (iotaInDim S16x2048 32 1) (ix2 b t)
      = BitVec.ofNat 32 (b.val * 2048 + t.val) := by
  have e : addi (muli (iotaInDim S16x2048 32 0) (broadcastInDim S16x2048 ![] bcast_S_S16x2048 (constantI S_ 32 2048#32))) (iotaInDim S16x2048 32 1) (ix2 b t)
      = BitVec.ofNat 32 b.val * BitVec.ofNat 32 2048 + BitVec.ofNat 32 t.val := by
    pointwise
    rfl
  rw [e, ← BitVec.ofNat_mul, ← BitVec.ofNat_add]

/-- A comparison with a bound, of the absolute value, makes the value a real number within the bound. -/
theorem bounded {x : EReal} {k : ℝ} (h : max x (-x) ≤ (k : EReal)) : ∃ r : ℝ, x = (r : EReal) ∧ |r| ≤ k := by
  induction x with
  | bot => exact absurd (le_trans (le_max_right _ _) h) (by simp)
  | top => exact absurd (le_trans (le_max_left _ _) h) (by simp)
  | coe r =>
    refine ⟨r, rfl, abs_le'.mpr ⟨?_, ?_⟩⟩
    · exact_mod_cast le_trans (le_max_left _ _) h
    · exact_mod_cast le_trans (le_max_right _ _) h

theorem three_val : (Scalar.ofBits .f32 0x40400000#32 : Ideal .f32) = ((3 : ℝ) : EReal) := by
  simp [Scalar.ofBits, FloatOps.ofBits, Ideal.ofBits, Ideal.ieee, -EReal.coe_mul]; norm_num

theorem eight_val : (Scalar.ofBits .f32 0x41000000#32 : Ideal .f32) = ((8 : ℝ) : EReal) := by
  simp [Scalar.ofBits, FloatOps.ofBits, Ideal.ofBits, Ideal.ieee, -EReal.coe_mul]; norm_num

theorem le_of_cmpf {x y : Ideal .f32} (h : FloatOps.cmpf .ole x y = 1#1) : (x : EReal) ≤ y := by
  by_contra hn
  have e : FloatOps.cmpf .ole x y = BitVec.ofBool (decide ((x : EReal) ≤ y)) := rfl
  rw [e, decide_eq_false hn] at h
  exact absurd h (by decide)

theorem of_pre (A : Args)
    (h0 : (fn (F := Ideal) A.corr A.kc A.prob A.trial A.tgt A.dyn A.op A.okc).1 = fun _ => 1#1)
    (h1 : (fn (F := Ideal) A.corr A.kc A.prob A.trial A.tgt A.dyn A.op A.okc).2.1 = fun _ => 1#1)
    (h2 : (fn (F := Ideal) A.corr A.kc A.prob A.trial A.tgt A.dyn A.op A.okc).2.2.1 = fun _ => 1#1)
    (h3 : (fn (F := Ideal) A.corr A.kc A.prob A.trial A.tgt A.dyn A.op A.okc).2.2.2 = fun _ => 1#1) : Ok A where
  trial b t := (IntOp.cmpi_eq.mp (congrFun h0 (ix2 b t))).trans (order b t)
  tgt b t := by
    have e := congrFun h1 (ix2 b t)
    have e' : IntOp.andi (IntOp.cmpi .sge (A.tgt (ix2 b t)) 0#32) (IntOp.cmpi .sle (A.tgt (ix2 b t)) 1#32) = 1#1 := e
    obtain ⟨e0, e1⟩ : IntOp.cmpi .sge (A.tgt (ix2 b t)) 0#32 = 1#1 ∧ IntOp.cmpi .sle (A.tgt (ix2 b t)) 1#32 = 1#1 := by
      revert e'
      generalize IntOp.cmpi .sge (A.tgt (ix2 b t)) 0#32 = x
      generalize IntOp.cmpi .sle (A.tgt (ix2 b t)) 1#32 = y
      revert x y
      decide
    have l0 := IntOp.cmpi_sge.mp e0
    have l1 := IntOp.cmpi_sle.mp e1
    have z0 : (0#32).toInt = 0 := by decide
    have z1 : (1#32).toInt = 1 := by decide
    rcases (show (A.tgt (ix2 b t)).toInt = 0 ∨ (A.tgt (ix2 b t)).toInt = 1 by omega) with hh | hh
    · exact .inl (BitVec.eq_of_toInt_eq (hh.trans z0.symm))
    · exact .inr (BitVec.eq_of_toInt_eq (hh.trans z1.symm))
  op r q := by
    have e := congrFun h2 (ix2 r q)
    have e' : FloatOps.cmpf .ole (max (A.op (ix2 r q)) (-(A.op (ix2 r q))) : Ideal .f32) (Scalar.ofBits .f32 0x40400000#32 : Ideal .f32) = 1#1 := e
    rw [three_val] at e'
    exact bounded (le_of_cmpf e')
  okc r q := by
    have e := congrFun h3 (ix2 r q)
    have e' : FloatOps.cmpf .ole (max (A.okc (ix2 r q)) (-(A.okc (ix2 r q))) : Ideal .f32) (Scalar.ofBits .f32 0x41000000#32 : Ideal .f32) = 1#1 := e
    rw [eight_val] at e'
    exact bounded (le_of_cmpf e')

end Cert.Range

end
-- ==== Proof.lean ====
/- The proof of the claims of `Defs.lean`: the frames and the preservation, which the modules of `Gen` and `Kept` give,
   and the value claim, where both programs are shown to end with one array, `Inputs.result`, a function of real numbers. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KHost
public import proofs.«01_k».proof.Proof.RFinal
public import proofs.«01_k».proof.Proof.Range
public import Idealize.ShloMosaic.Adequacy
public import Idealize.ShloMosaic.Init

@[expose] public section

noncomputable section

namespace Cert.Proof

open Idealize.ShloMosaic Idealize.SL.Sem Cert.Inputs

/-- The printed facts of the precondition. -/
instance facts_pre : Cert.Pre_in_range.Facts := Cert.Range.facts

/-- The precondition on the kernel's arguments, decoded. -/
theorem ok (m : (ℓ : Loc Cert.KernelIdeal.nD Cert.KernelIdeal.τ Cert.KernelIdeal.sig) → Buf (Elt Ideal) ℓ)
    (h : Cert.Pre_KernelIdeal_in_range m) (c : Dev Cert.KernelIdeal.nD) : Ok (KHost.args m c) :=
  Range.of_pre (KHost.args m c) (h c).1 (h c).2.1 (h c).2.2.1 (h c).2.2.2

/-- Both programs end with the same array. -/
theorem value : Cert.algebraic_KernelIdeal_ReferenceIdeal_pre_in_range := by
  intro m g m' g' hp ha
  have e : ∀ c, RHost.args m' c = KHost.args m c := by
    intro c
    obtain ⟨a0, a1, a2, a3, a4, a5, a6, a7⟩ := ha c
    unfold RHost.args KHost.args
    congr 1
  have ok' : ∀ c, Ok (RHost.args m' c) := fun c => (e c) ▸ ok m hp c
  refine ⟨fun c => result (dat (KHost.args m c)), KHost.run m g (ok m hp), ?_⟩
  have r := RFinal.run m' g' ok'
  simp only [e] at r
  exact r

/-- All the claims. -/
theorem claim : Cert.Claim := ⟨Cert.Kernel.Gen.facts, Cert.KernelIdeal.Gen.facts, Cert.ReferenceIdeal.Gen.facts, Cert.Range.facts,
  fun m ρ _ => Cert.Kernel.Gen.frame m ρ, fun m ρ _ => Cert.KernelIdeal.Gen.frame m ρ, fun m ρ _ => Cert.KernelIdeal.Gen.frame m ρ,
  fun m ρ _ => Cert.Kept.frame m ρ, fun m ρ _ => Cert.Kept.frame m ρ, trivial, value⟩

end Cert.Proof

end
